-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![4096, 512]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S8x128 : Shape := ⟨2, ![8, 128]⟩
abbrev S8 : Shape := ⟨1, ![8]⟩
abbrev S_ : Shape := ⟨0, ![]⟩
abbrev S256x512 : Shape := ⟨2, ![256, 512]⟩
abbrev S1x256x512 : Shape := ⟨3, ![1, 256, 512]⟩
abbrev S1 : Shape := ⟨1, ![1]⟩
abbrev S1x1x1 : Shape := ⟨3, ![1, 1, 1]⟩
abbrev S128 : Shape := ⟨1, ![128]⟩
abbrev S1x128 : Shape := ⟨2, ![1, 128]⟩
abbrev S1x1 : Shape := ⟨2, ![1, 1]⟩

abbrev nBuf : Space → Nat
  | .hbm => 2
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | .local _ .vmem, ⟨0, _⟩ => ⟨S2048x512, .f32⟩
  | .local _ .vmem, ⟨1, _⟩ => ⟨S2048x512, .bf16⟩
  | .local _ .vmem, ⟨2, _⟩ => ⟨S2048x512, .i8⟩
  | .local _ .vmem, ⟨3, _⟩ => ⟨S2048x512, .i8⟩
  | .local _ .vmem, ⟨4, _⟩ => ⟨S8x128, .f32⟩
  | .local _ .vmem, ⟨5, _⟩ => ⟨S8x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v41 : BitVec 32 := Scalar.muli v2 c4_i32_22
  let v42 : BitVec 32 := Scalar.addi c0_i32_23 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v43 : BitVec 32 := Scalar.muli v5 c2_i32_24
  let v44 : BitVec 32 := Scalar.addi v42 v43
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_25 : BitVec 32 := 1#32
  let v45 : BitVec 32 := Scalar.muli v9 c1_i32_25
  let v46 : BitVec 32 := Scalar.addi v44 v45
  v46.toNat
def k0_dev3 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v55 : BitVec 32 := Scalar.muli v2 c4_i32_30
  let v56 : BitVec 32 := Scalar.addi c0_i32_31 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v57 : BitVec 32 := Scalar.muli v5 c2_i32_32
  let v58 : BitVec 32 := Scalar.addi v56 v57
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_33 : BitVec 32 := 1#32
  let v59 : BitVec 32 := Scalar.muli v9 c1_i32_33
  let v60 : BitVec 32 := Scalar.addi v58 v59
  v60.toNat
def k0_dev4 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v91 : BitVec 32 := Scalar.muli v2 c4_i32_51
  let v92 : BitVec 32 := Scalar.addi c0_i32_52 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v93 : BitVec 32 := Scalar.muli v5 c2_i32_53
  let v94 : BitVec 32 := Scalar.addi v92 v93
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_54 : BitVec 32 := 1#32
  let v95 : BitVec 32 := Scalar.muli v9 c1_i32_54
  let v96 : BitVec 32 := Scalar.addi v94 v95
  v96.toNat
def k0_dev5 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v105 : BitVec 32 := Scalar.muli v2 c4_i32_59
  let v106 : BitVec 32 := Scalar.addi c0_i32_60 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v107 : BitVec 32 := Scalar.muli v5 c2_i32_61
  let v108 : BitVec 32 := Scalar.addi v106 v107
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_62 : BitVec 32 := 1#32
  let v109 : BitVec 32 := Scalar.muli v9 c1_i32_62
  let v110 : BitVec 32 := Scalar.addi v108 v109
  v110.toNat
def k0_dev6 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v141 : BitVec 32 := Scalar.muli v2 c4_i32_79
  let v142 : BitVec 32 := Scalar.addi c0_i32_80 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v143 : BitVec 32 := Scalar.muli v5 c2_i32_81
  let v144 : BitVec 32 := Scalar.addi v142 v143
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_82 : BitVec 32 := 1#32
  let v145 : BitVec 32 := Scalar.muli v9 c1_i32_82
  let v146 : BitVec 32 := Scalar.addi v144 v145
  v146.toNat
def k0_dev7 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v155 : BitVec 32 := Scalar.muli v2 c4_i32_87
  let v156 : BitVec 32 := Scalar.addi c0_i32_88 v155
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v157 : BitVec 32 := Scalar.muli v5 c2_i32_89
  let v158 : BitVec 32 := Scalar.addi v156 v157
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_90 : BitVec 32 := 1#32
  let v159 : BitVec 32 := Scalar.muli v9 c1_i32_90
  let v160 : BitVec 32 := Scalar.addi v158 v159
  v160.toNat
def k0_dev8 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v191 : BitVec 32 := Scalar.muli v2 c4_i32_106
  let v192 : BitVec 32 := Scalar.addi c0_i32_107 v191
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v193 : BitVec 32 := Scalar.muli v5 c2_i32_108
  let v194 : BitVec 32 := Scalar.addi v192 v193
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_109 : BitVec 32 := 1#32
  let v195 : BitVec 32 := Scalar.muli v9 c1_i32_109
  let v196 : BitVec 32 := Scalar.addi v194 v195
  v196.toNat
def k0_dev9 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_114 : BitVec 32 := 4#32
  let v205 : BitVec 32 := Scalar.muli v2 c4_i32_114
  let v206 : BitVec 32 := Scalar.addi c0_i32_115 v205
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v207 : BitVec 32 := Scalar.muli v5 c2_i32_116
  let v208 : BitVec 32 := Scalar.addi v206 v207
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_117 : BitVec 32 := 1#32
  let v209 : BitVec 32 := Scalar.muli v9 c1_i32_117
  let v210 : BitVec 32 := Scalar.addi v208 v209
  v210.toNat
def k0_dev10 (d0 : Dev nD) : Nat :=
  let c0_i32_135 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_134 : BitVec 32 := 4#32
  let v241 : BitVec 32 := Scalar.muli v2 c4_i32_134
  let v242 : BitVec 32 := Scalar.addi c0_i32_135 v241
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_136 : BitVec 32 := 2#32
  let v243 : BitVec 32 := Scalar.muli v5 c2_i32_136
  let v244 : BitVec 32 := Scalar.addi v242 v243
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_137 : BitVec 32 := 1#32
  let v245 : BitVec 32 := Scalar.muli v9 c1_i32_137
  let v246 : BitVec 32 := Scalar.addi v244 v245
  v246.toNat
def k0_dev11 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v255 : BitVec 32 := Scalar.muli v2 c4_i32_142
  let v256 : BitVec 32 := Scalar.addi c0_i32_143 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_144 : BitVec 32 := 2#32
  let v257 : BitVec 32 := Scalar.muli v5 c2_i32_144
  let v258 : BitVec 32 := Scalar.addi v256 v257
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_145 : BitVec 32 := 1#32
  let v259 : BitVec 32 := Scalar.muli v9 c1_i32_145
  let v260 : BitVec 32 := Scalar.addi v258 v259
  v260.toNat
def k0_dev12 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v291 : BitVec 32 := Scalar.muli v2 c4_i32_161
  let v292 : BitVec 32 := Scalar.addi c0_i32_162 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v293 : BitVec 32 := Scalar.muli v5 c2_i32_163
  let v294 : BitVec 32 := Scalar.addi v292 v293
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_164 : BitVec 32 := 1#32
  let v295 : BitVec 32 := Scalar.muli v9 c1_i32_164
  let v296 : BitVec 32 := Scalar.addi v294 v295
  v296.toNat
def k0_dev13 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v305 : BitVec 32 := Scalar.muli v2 c4_i32_169
  let v306 : BitVec 32 := Scalar.addi c0_i32_170 v305
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v307 : BitVec 32 := Scalar.muli v5 c2_i32_171
  let v308 : BitVec 32 := Scalar.addi v306 v307
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_172 : BitVec 32 := 1#32
  let v309 : BitVec 32 := Scalar.muli v9 c1_i32_172
  let v310 : BitVec 32 := Scalar.addi v308 v309
  v310.toNat
def k0_dev14 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v341 : BitVec 32 := Scalar.muli v2 c4_i32_188
  let v342 : BitVec 32 := Scalar.addi c0_i32_189 v341
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_190 : BitVec 32 := 2#32
  let v343 : BitVec 32 := Scalar.muli v5 c2_i32_190
  let v344 : BitVec 32 := Scalar.addi v342 v343
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_191 : BitVec 32 := 1#32
  let v345 : BitVec 32 := Scalar.muli v9 c1_i32_191
  let v346 : BitVec 32 := Scalar.addi v344 v345
  v346.toNat
def k0_dev15 (d0 : Dev nD) : Nat :=
  let c0_i32_197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_196 : BitVec 32 := 4#32
  let v355 : BitVec 32 := Scalar.muli v2 c4_i32_196
  let v356 : BitVec 32 := Scalar.addi c0_i32_197 v355
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v357 : BitVec 32 := Scalar.muli v5 c2_i32_198
  let v358 : BitVec 32 := Scalar.addi v356 v357
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_199 : BitVec 32 := 1#32
  let v359 : BitVec 32 := Scalar.muli v9 c1_i32_199
  let v360 : BitVec 32 := Scalar.addi v358 v359
  v360.toNat
def k0_dev16 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_215 : BitVec 32 := 4#32
  let v391 : BitVec 32 := Scalar.muli v2 c4_i32_215
  let v392 : BitVec 32 := Scalar.addi c0_i32_216 v391
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_217 : BitVec 32 := 2#32
  let v393 : BitVec 32 := Scalar.muli v5 c2_i32_217
  let v394 : BitVec 32 := Scalar.addi v392 v393
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_218 : BitVec 32 := 1#32
  let v395 : BitVec 32 := Scalar.muli v9 c1_i32_218
  let v396 : BitVec 32 := Scalar.addi v394 v395
  v396.toNat
def k0_dev17 (d0 : Dev nD) : Nat :=
  let c0_i32_224 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_223 : BitVec 32 := 4#32
  let v405 : BitVec 32 := Scalar.muli v2 c4_i32_223
  let v406 : BitVec 32 := Scalar.addi c0_i32_224 v405
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_225 : BitVec 32 := 2#32
  let v407 : BitVec 32 := Scalar.muli v5 c2_i32_225
  let v408 : BitVec 32 := Scalar.addi v406 v407
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_226 : BitVec 32 := 1#32
  let v409 : BitVec 32 := Scalar.muli v9 c1_i32_226
  let v410 : BitVec 32 := Scalar.addi v408 v409
  v410.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S2x8x256x512 : Shape := ⟨4, ![2, 8, 256, 512]⟩
abbrev S_ : Shape := ⟨0, ![]⟩
abbrev S2x8 : Shape := ⟨2, ![2, 8]⟩
abbrev S2x8x1x1 : Shape := ⟨4, ![2, 8, 1, 1]⟩
abbrev S2x2048x512 : Shape := ⟨3, ![2, 2048, 512]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2x8x256x512, .f32⟩
  | .hbm, ⟨2, _⟩ => ⟨S2x8x256x512, .f32⟩
  | .hbm, ⟨3, _⟩ => ⟨S_, .f32⟩
  | .hbm, ⟨4, _⟩ => ⟨S2x8, .f32⟩
  | .hbm, ⟨5, _⟩ => ⟨S2x8x1x1, .f32⟩
  | .hbm, ⟨6, _⟩ => ⟨S_, .f32⟩
  | .hbm, ⟨7, _⟩ => ⟨S2x8x1x1, .f32⟩
  | .hbm, ⟨8, _⟩ => ⟨S2x8x1x1, .f32⟩
  | .hbm, ⟨9, _⟩ => ⟨S_, .f32⟩
  | .hbm, ⟨10, _⟩ => ⟨S2x8x1x1, .f32⟩
  | .hbm, ⟨11, _⟩ => ⟨S2x8x1x1, .f32⟩
  | .hbm, ⟨12, _⟩ => ⟨S2x8x256x512, .f32⟩
  | .hbm, ⟨13, _⟩ => ⟨S2x8x256x512, .f32⟩
  | .hbm, ⟨14, _⟩ => ⟨S2x8x256x512, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2x8x256x512, .f32⟩
  | .hbm, ⟨19, _⟩ => ⟨S2x8x256x512, .f32⟩
  | .hbm, ⟨20, _⟩ => ⟨S_, .f32⟩
  | .hbm, ⟨21, _⟩ => ⟨S2x8x256x512, .f32⟩
  | .hbm, ⟨22, _⟩ => ⟨S2x8x256x512, .f32⟩
  | .hbm, ⟨23, _⟩ => ⟨S2x8x256x512, .i32⟩
  | .hbm, ⟨24, _⟩ => ⟨S2x8x256x512, .f32⟩
  | .hbm, ⟨25, _⟩ => ⟨S_, .f32⟩
  | .hbm, ⟨26, _⟩ => ⟨S2x8x1x1, .f32⟩
  | .hbm, ⟨27, _⟩ => ⟨S2x8x1x1, .f32⟩
  | .hbm, ⟨28, _⟩ => ⟨S2x8x256x512, .f32⟩
  | .hbm, ⟨29, _⟩ => ⟨S2x8x256x512, .f32⟩
  | .hbm, ⟨30, _⟩ => ⟨S2x2048x512, .f32⟩
  | .hbm, ⟨31, _⟩ => ⟨S2x2048x512, .f32⟩
  | .hbm, ⟨32, _⟩ => ⟨S2x2048x512, .f32⟩
  | .hbm, ⟨33, _⟩ => ⟨S2x2048x512, .f32⟩
  | .hbm, ⟨34, _⟩ => ⟨S4096x512, .f32⟩
  | .hbm, ⟨35, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.IdealProg.lean ====
/- The kernel body, chunk by chunk: what a device does to send one chunk of its half, to combine one
   chunk it received, and to retire one chunk's copies, each as one program of a symbolic chunk; and
   that the printed body is these in turn. -/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Own

open Cert.KernelIdeal Cert.KernelIdeal.Gen
open Idealize.ShloMosaic Idealize.SL.Sem

variable {F : FTy → Type} [FloatOps F]

/-- A chunk's 256 rows lie in the half. -/
theorem inbRows (k : Fin 8) : ∀ a, (![256 * k.val, 0] : Fin 2 → Nat) a + S256x512.size a ≤ S2048x512.size a := by
  revert k; decide
/-- A chunk's row of scales lies in the array of scales. -/
theorem inbRow (k : Fin 8) : ∀ a, (![k.val, 0] : Fin 2 → Nat) a + S1x128.size a ≤ S8x128.size a := by
  revert k; decide
/-- The scale read lies in the array of scales. -/
theorem inbOne (k : Fin 8) : ∀ a, (![k.val, 0] : Fin 2 → Nat) a + S1x1.size a ≤ S8x128.size a := by
  revert k; decide
/-- A chunk's semaphore lies in its array. -/
theorem inbSem (k : Fin 8) : ∀ a, (![k.val] : Fin 1 → Nat) a + S1.size a ≤ S8.size a := by
  revert k; decide

/-- The rows of chunk `k`. -/
abbrev rows (k : Fin 8) : Rect S2048x512 := Rect.unit (s := S2048x512) ![256 * k.val, 0] S256x512.size (inbRows k)
/-- The row of scales of chunk `k`. -/
abbrev srow (k : Fin 8) : Rect S8x128 := Rect.unit (s := S8x128) ![k.val, 0] S1x128.size (inbRow k)
/-- The scale of chunk `k` that is read: the first of its row. -/
abbrev sone (k : Fin 8) : Rect S8x128 := Rect.unit (s := S8x128) ![k.val, 0] S1x1.size (inbOne k)

/-- A chunk's rows are whole packed rows of bytes, -/
theorem packed8 (k : Fin 8) : (rows k).PackedRows (EltTy.packing .i8) := by revert k; decide
/-- whole words of bytes, -/
theorem words8 (k : Fin 8) : (rows k).WholeWords (EltTy.packing .i8) := by revert k; decide
/-- and whole packed rows of 16-bit values. -/
theorem packed16 (k : Fin 8) : (rows k).PackedRows (EltTy.packing .bf16) := by revert k; decide

/-- The staged half, -/
abbrev mX : Memref sig .tc .vmem S2048x512 .f32 := Memref.whole cc0_stg0_0
/-- the staged result, -/
abbrev mO : Memref sig .tc .vmem S2048x512 .bf16 := Memref.whole cc0_stg1_0
/-- the quantised half sent, -/
abbrev mSQ : Memref sig .tc .vmem S2048x512 .i8 := Memref.whole cc0_scratch0
/-- the quantised half received, -/
abbrev mRQ : Memref sig .tc .vmem S2048x512 .i8 := Memref.whole cc0_scratch1
/-- the scales sent, -/
abbrev mSS : Memref sig .tc .vmem S8x128 .f32 := Memref.whole cc0_scratch2
/-- and the scales received. -/
abbrev mRS : Memref sig .tc .vmem S8x128 .f32 := Memref.whole cc0_scratch3

/-- Chunk `k` of the quantised half sent, -/
abbrev cSQ (k : Fin 8) : Memref sig .tc .vmem S256x512 .i8 := mSQ.slice (rows k) (fun _ => rfl)
/-- of the quantised half received, -/
abbrev cRQ (k : Fin 8) : Memref sig .tc .vmem S256x512 .i8 := mRQ.slice (rows k) (fun _ => rfl)
/-- of the scales sent, -/
abbrev cSS (k : Fin 8) : Memref sig .tc .vmem S128 .f32 := (mSS.slice (srow k) (fun _ => rfl)).squeeze S128 squeezes_S1x128_S128
/-- and of the scales received. -/
abbrev cRS (k : Fin 8) : Memref sig .tc .vmem S128 .f32 := (mRS.slice (srow k) (fun _ => rfl)).squeeze S128 squeezes_S1x128_S128

/-- Chunk `k`'s semaphore of an array of eight. -/
abbrev semAt (a : DmaSems sig S8) (k : Fin 8) : DmaSem sig :=
  ((a.slice (Rect.unit (s := S8) ![k.val] S1.size (inbSem k))).squeeze S_ squeezes_S1_S_).sem
/-- The semaphore chunk `k`'s quantised rows leave on, -/
abbrev semDS (k : Fin 8) : DmaSem sig := semAt cc0_scratch4 k
/-- arrive on, -/
abbrev semDR (k : Fin 8) : DmaSem sig := semAt cc0_scratch5 k
/-- the one its scales leave on, -/
abbrev semSS (k : Fin 8) : DmaSem sig := semAt cc0_scratch6 k
/-- and arrive on. -/
abbrev semSR (k : Fin 8) : DmaSem sig := semAt cc0_scratch7 k

/-- The runtime's barrier semaphore. -/
abbrev barS : Sem sig := (SemArray.scalar (sig.barrier 0 rfl) : Sems sig S_).sem

/-- The row of scales of a chunk: its largest absolute value, no less than the least scale, 128 times. -/
abbrev scaleOf (x : Vec F S256x512 .f32) : FVec F S1x128 .f32 := k0_pay8 x
/-- A chunk quantised. -/
abbrev quantOf (x : Vec F S256x512 .f32) : IVec S256x512 8 := k0_pay9 x
/-- A chunk of the result: the rows here plus the rows received, dequantised. -/
abbrev combine (q : Vec F S256x512 .i8) (s : Vec F S1x1 .f32) (x : Vec F S256x512 .f32) : FVec F S256x512 .bf16 := k0_pay49 q s x

/-- The device `c` exchanges with, as the kernel computes it. -/
abbrev peerOf (c : Dev nD) : Dev nD := ⟨k0_dev1 c, k0_dev1_lt c⟩

/-- A program of a device's core. -/
abbrev Tc (F : FTy → Type) [FloatOps F] := Prog (TpuEff nD τ sig (Elt F) Λ₀ .tc) PUnit

/-- Send chunk `k`: quantise it, and start copying its scales and its rows to the peer. -/
def sendProg (c : Dev nD) (k : Fin 8) (K : Tc F) : Tc F :=
  .op (.load mX (rows k).toLoadRect (View.loadsAt_vmem h_S256x512)) fun (x : Vec F S256x512 .f32) =>
  .op (.load mSS (srow k).toLoadRect (View.loadsAt_vmem h_S1x128)) fun _ =>
  .op (.store mSS (srow k) (scaleOf x) Finset.univ (View.stores_vmem_bits_univ h_S1x128 rfl) (.inl rfl)) fun _ =>
  .op (.load mSQ (rows k).toLoadRect (View.loadsAt_vmem h_S256x512)) fun _ =>
  .op (.store mSQ (rows k) (quantOf x) Finset.univ
    (View.stores_vmem h_S256x512 ((Memref.isWhole_whole cc0_scratch0).storeExact_slice rfl _ (packed8 k)) (fun _ => rfl)) (.inl rfl)) fun _ =>
  .op (.enqueueDma (cSS k) (.remote (Dev.tc (peerOf c)) (cRS k) (.dma (semSS k))) (.dma (semSR k))
    ((View.wordExact_bits rfl).reshape _ _) ((View.wordExact_bits rfl).reshape _ _) ⟨⟨rfl, Or.inl rfl⟩, trivial⟩) fun _ =>
  .op (.enqueueDma (cSQ k) (.remote (Dev.tc (peerOf c)) (cRQ k) (.dma (semDS k))) (.dma (semDR k))
    ((Memref.isWhole_whole cc0_scratch0).wordExact_slice rfl _ (words8 k))
    ((Memref.isWhole_whole cc0_scratch1).wordExact_slice rfl _ (words8 k)) ⟨⟨rfl, Or.inl rfl⟩, trivial⟩) fun _ => K

/-- Combine chunk `k`: wait for the peer's scales and rows, and store the chunk of the result. -/
def recvProg (k : Fin 8) (K : Tc F) : Tc F :=
  .op (.waitDma2 (semSR k) (cSS k) (cRS k) ((View.wordExact_bits rfl).reshape _ _) ((View.wordExact_bits rfl).reshape _ _)) fun _ =>
  .op (.waitDma2 (semDR k) (cSQ k) (cRQ k)
    ((Memref.isWhole_whole cc0_scratch0).wordExact_slice rfl _ (words8 k))
    ((Memref.isWhole_whole cc0_scratch1).wordExact_slice rfl _ (words8 k))) fun _ =>
  .op (.load mRQ (rows k).toLoadRect (View.loadsAt_vmem h_S256x512)) fun (q : Vec F S256x512 .i8) =>
  .op (.load mRS (sone k).toLoadRect (View.loadsAt_vmem h_S1x1)) fun (s : Vec F S1x1 .f32) =>
  .op (.load mX (rows k).toLoadRect (View.loadsAt_vmem h_S256x512)) fun (x : Vec F S256x512 .f32) =>
  .op (.load mO (rows k).toLoadRect (View.loadsAt_vmem h_S256x512)) fun _ =>
  .op (.store mO (rows k) (combine q s x) Finset.univ
    (View.stores_vmem h_S256x512 ((Memref.isWhole_whole cc0_stg1_0).storeExact_slice rfl _ (packed16 k)) (fun _ => rfl)) (.inl rfl)) fun _ => K

/-- Retire chunk `k`: wait for its own copies to have been read out. -/
def finProg (k : Fin 8) (K : Tc F) : Tc F :=
  .op (.waitDma2 (semSS k) (cRS k) (cSS k) ((View.wordExact_bits rfl).reshape _ _) ((View.wordExact_bits rfl).reshape _ _)) fun _ =>
  .op (.waitDma2 (semDS k) (cRQ k) (cSQ k)
    ((Memref.isWhole_whole cc0_scratch1).wordExact_slice rfl _ (words8 k))
    ((Memref.isWhole_whole cc0_scratch0).wordExact_slice rfl _ (words8 k))) fun _ => K

/-- All eight chunks retired. -/
def finAll : Tc F :=
  finProg 0 <| finProg 1 <| finProg 2 <| finProg 3 <| finProg 4 <| finProg 5 <| finProg 6 <| finProg 7 <| .ret ⟨⟩
/-- All eight chunks combined, then retired. -/
def recvAll : Tc F :=
  recvProg 0 <| recvProg 1 <| recvProg 2 <| recvProg 3 <| recvProg 4 <| recvProg 5 <| recvProg 6 <| recvProg 7 <| finAll
/-- All eight chunks sent, combined and retired. -/
def sendAll (c : Dev nD) : Tc F :=
  sendProg c 0 <| sendProg c 1 <| sendProg c 2 <| sendProg c 3 <| sendProg c 4 <| sendProg c 5 <| sendProg c 6 <| sendProg c 7 <| recvAll

set_option maxRecDepth 65536 in
/-- The printed body: the device, the entry barrier with the peer, then the chunks. -/
theorem body_eq (t : Fin cfg0.N) : bodyAt0 (F := F) t =
    .op .deviceId fun c => .op (.semSignal (Dev.tc (peerOf c)) barS 1) fun _ => .op (.semWait barS 1) fun _ => sendAll c := by
  rw [fin_N0 t]
  rfl

end Cert.KernelIdeal.Own
-- ==== Proof.IdealProtocol.lean ====
/- The protocol of the exchange: the contents that travel, the cells, the schedule of duties with their
   payloads, what a device owes at launch and the levels its waits are made at. -/
module

public import proofs.«01_k».proof.Proof.IdealProg
public import Idealize.ShloMosaic.Lib.Pipeline.Launch
public import Idealize.ShloMosaic.Lib.Pipeline.Kit
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds' ghost state: one duty a round. -/
abbrev UB : Type := URounds (GSem nD τ sig) Unit
/-- The pipeline's ghost state beside it. -/
abbrev UU : Type := UR sig nD τ × UB

local notation "𝕄" => MT nD τ sig Unit (Elt F) ℕ UU ℕ

/-- Where the pipeline's state lies, -/
abbrev EP : Emb (UR sig nD τ) (MT nD τ sig Unit (Elt F) ℕ UU ℕ) := embL
/-- and the rounds'. -/
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The partner -/

/-- Exchanging twice comes back. -/
theorem peer_peer (c : Dev nD) : peerOf (peerOf c) = c := by
  apply Fin.ext
  show k0_dev1 (peerOf c) = c.val
  rw [k0_dev1_eq]
  show (4 * (k0_dev1 c / 4) + 2 * (k0_dev1 c / 2 % 2) + 1) - k0_dev1 c % 2 = c.val
  rw [k0_dev1_eq]
  revert c; decide

/-- The partner, as a rearrangement of the devices. -/
def pair : Dev nD ≃ Dev nD := ⟨peerOf, peerOf, peer_peer, peer_peer⟩

/-! ## The cells -/

/-- Kind of transfer and chunk: kinds 0 and 1 are the leaving and the arriving of quantised rows, 2 and 3 of scales. -/
abbrev Jk : Type := Fin 4 × Fin 8

/-- The semaphore of a kind and a chunk. -/
def xsem (jk : Jk) : DmaSem sig :=
  match jk.1 with
  | 0 => semDS jk.2
  | 1 => semDR jk.2
  | 2 => semSS jk.2
  | 3 => semSR jk.2

/-- The kind and chunk of a semaphore. -/
def which (q : DmaSem sig) : Jk := (⟨(q.val - 2) / 8 % 4, Nat.mod_lt _ (by decide)⟩, ⟨(q.val - 2) % 8, Nat.mod_lt _ (by decide)⟩)

theorem which_xsem (jk : Jk) : which (xsem jk) = jk := by revert jk; decide
theorem two_le_xsem (jk : Jk) : 2 ≤ (xsem jk).val := by revert jk; decide

/-- The scoped semaphores the kernel names besides the windows'. -/
abbrev osem (jk : Jk) : SemLoc sig := .dma (xsem jk)
/-- The barrier cell of a device. -/
abbrev barCell (c : Dev nD) : GSem nD τ sig := ((c : Thread nD τ), .reg barS)
/-- The cell of a transfer. -/
abbrev xcell (c : Dev nD) (jk : Jk) : GSem nD τ sig := ((c : Thread nD τ), .dma (xsem jk))

theorem xcell_inj {c c' : Dev nD} {jk jk' : Jk} (h : xcell c jk = xcell c' jk') : c = c' ∧ jk = jk' := by
  have h1 := congrArg (fun g : GSem nD τ sig => g.1.1) h
  have h2 : xsem jk = xsem jk' := by
    have := congrArg Prod.snd h
    exact SemLoc.dma.inj this
  exact ⟨h1, by rw [← which_xsem jk, h2, which_xsem]⟩

/-- The credit of a chunk of quantised rows, -/
abbrev Nd : ℕ := (cRQ 0).view.dmaCredit
/-- and of a row of scales. -/
abbrev Ns : ℕ := (cRS 0).view.dmaCredit
theorem Nd_pos : 0 < Nd := View.dmaCredit_pos _ (by decide)
theorem Ns_pos : 0 < Ns := View.dmaCredit_pos _ (by decide)
theorem credRQ (k : Fin 8) : (cRQ k).view.dmaCredit = Nd := rfl
theorem credSQ (k : Fin 8) : (cSQ k).view.dmaCredit = Nd := rfl
theorem credRS (k : Fin 8) : (cRS k).view.dmaCredit = Ns := rfl
theorem credSS (k : Fin 8) : (cSS k).view.dmaCredit = Ns := rfl

/-- The credit of a transfer. -/
def amt (jk : Jk) : ℕ := if jk.1.val < 2 then Nd else Ns
theorem amt_pos (jk : Jk) : 0 < amt jk := by unfold amt; split <;> [exact Nd_pos; exact Ns_pos]

/-! ## Contents -/

/-- A device's half, as staged. -/
def xstg (c : Dev nD) : (cc0_stg0_0 : Ref sig .tc).ty.Contents (Elt F) :=
  (win0_0.blk (0 : Fin 1)).view.read (Elt F) ((s₀ m ρ).mem ((c : Thread nD τ).loc main_arg0))
/-- A chunk of it. -/
def xch (c : Dev nD) (k : Fin 8) : Vec F S256x512 .f32 := mX.view.readAt (Elt F) (rows k).toLoadRect (xstg m ρ c)
/-- The chunk quantised, -/
def qch (c : Dev nD) (k : Fin 8) : Vec F S256x512 .i8 := quantOf (xch m ρ c k)
/-- its row of scales, -/
def sch (c : Dev nD) (k : Fin 8) : Vec F S1x128 .f32 := scaleOf (xch m ρ c k)
/-- the scale of it that is read, -/
def s1ch (c : Dev nD) (k : Fin 8) : Vec F S1x1 .f32 := fun _ => sch m ρ c k (fun a => ⟨0, by revert a; decide⟩)
/-- and the chunk of the result. -/
def och (c : Dev nD) (k : Fin 8) : Vec F S256x512 .bf16 := combine (qch m ρ (peerOf c) k) (s1ch m ρ (peerOf c) k) (xch m ρ c k)

/-- Chunk `k` of a buffer of the half's shape, -/
abbrev qpart {e : EltTy} (M : Memref sig .tc .vmem S2048x512 e) (k : Fin 8) : Memref sig .tc .vmem S256x512 e := M.slice (rows k) (fun _ => rfl)
/-- and row `k` of an array of scales. -/
abbrev spart (M : Memref sig .tc .vmem S8x128 .f32) (k : Fin 8) : Memref sig .tc .vmem S1x128 .f32 := M.slice (srow k) (fun _ => rfl)

/-- Device `c` holds chunk `k` of a buffer with contents `X`. -/
abbrev hq {e : EltTy} (c : Dev nD) (M : Memref sig .tc .vmem S2048x512 e) (k : Fin 8) (X : S256x512.Idx → Elt F e) : sProp 𝕄 :=
  owns (c : Thread nD τ) (qpart M k) fullShare X
/-- Device `c` holds row `k` of an array of scales with contents `X`. -/
abbrev hs (c : Dev nD) (M : Memref sig .tc .vmem S8x128 .f32) (k : Fin 8) (X : S1x128.Idx → Elt F .f32) : sProp 𝕄 :=
  owns (c : Thread nD τ) (spart M k) fullShare X

/-- The landing pieces of device `c`'s chunk `k`, with some contents. -/
def landing (c : Dev nD) (k : Fin 8) : sProp 𝕄 := iprop((∃ X, hq c mRQ k X) ∗ (∃ X, hs c mRS k X))
/-- What the partner's signal hands device `c`: all the partner's landing pieces. -/
def barPay (c : Dev nD) : sProp 𝕄 := bigSep Finset.univ fun k : Fin 8 => landing (F := F) (peerOf c) k
/-- What a transfer hands the device whose cell it credits: its own piece back, or the partner's landed. -/
def xferPay (c : Dev nD) (jk : Jk) : sProp 𝕄 :=
  match jk.1 with
  | 0 => hq c mSQ jk.2 (qch m ρ c jk.2)
  | 1 => hq c mRQ jk.2 (qch m ρ (peerOf c) jk.2)
  | 2 => hs c mSS jk.2 (sch m ρ c jk.2)
  | 3 => hs c mRS jk.2 (sch m ρ (peerOf c) jk.2)

instance landing_storable (c : Dev nD) (k : Fin 8) : BI.Storable (upEmb : UEmb _ 𝕄) (landing (F := F) c k) := by
  unfold landing; infer_instance
instance barPay_storable (c : Dev nD) : BI.Storable (upEmb : UEmb _ 𝕄) (barPay (F := F) c) := by
  unfold barPay; infer_instance
instance xferPay_storable (c : Dev nD) (jk : Jk) : BI.Storable (upEmb : UEmb _ 𝕄) (xferPay m ρ c jk) := by
  unfold xferPay; split <;> infer_instance

/-! ## The schedule -/

/-- A semaphore of the exchange: the barrier's, or a transfer's. -/
def isX : SemLoc sig → Bool
  | .reg _ => true
  | .dma q => decide (2 ≤ q.val)

/-- One round with one duty at every cell of the exchange. -/
def xRd : Rounds.Schedule (GSem nD τ sig) Unit 𝕄 where
  duties g r := if r = 0 ∧ g.1.2 = .tc ∧ isX g.2 = true then {()} else ∅
  unitless _ := False
  amount g _ _ := match g.2 with | .reg _ => 1 | .dma q => amt (which q)
  payload g _ _ := match g.2 with | .reg _ => barPay g.1.1 | .dma q => xferPay m ρ g.1.1 (which q)
  amount_pos g _ _ _ := by split <;> [exact Nat.one_pos; exact amt_pos _]

instance xRd_payload_storable (g : GSem nD τ sig) (r : ℕ) (d : Unit) :
    BI.Storable (upEmb : UEmb _ 𝕄) ((xRd (F := F) m ρ).payload g r d) := by
  show BI.Storable upEmb (match g.2 with | .reg _ => barPay g.1.1 | .dma q => xferPay m ρ g.1.1 (which q))
  split <;> infer_instance

section Sched
variable (c : Dev nD) (jk : Jk)

theorem duties_bar : (xRd (F := F) m ρ).duties (barCell c) 0 = {()} := by dsimp only [xRd]; exact if_pos ⟨rfl, rfl, rfl⟩
theorem duties_x : (xRd (F := F) m ρ).duties (xcell c jk) 0 = {()} := by
  dsimp only [xRd]; exact if_pos ⟨rfl, rfl, decide_eq_true (two_le_xsem jk)⟩
theorem duties_later (g : GSem nD τ sig) : ∀ r, 1 ≤ r → (xRd (F := F) m ρ).duties g r = ∅ :=
  fun r hr => by dsimp only [xRd]; rw [if_neg fun h => by omega]
theorem amount_bar (d : Unit) : (xRd (F := F) m ρ).amount (barCell c) 0 d = 1 := rfl
theorem amount_x (d : Unit) : (xRd (F := F) m ρ).amount (xcell c jk) 0 d = amt jk := by dsimp only [xRd]; rw [which_xsem]
theorem expect_bar : (xRd (F := F) m ρ).expect (barCell c) 0 = 1 := by
  unfold Schedule.expect Schedule.amountOf; rw [duties_bar, Finset.sum_singleton, amount_bar]
theorem expect_x : (xRd (F := F) m ρ).expect (xcell c jk) 0 = amt jk := by
  unfold Schedule.expect Schedule.amountOf; rw [duties_x, Finset.sum_singleton, amount_x]
theorem payload_bar (d : Unit) : (xRd (F := F) m ρ).payload (barCell c) 0 d = barPay c := rfl
theorem payload_x (d : Unit) : (xRd (F := F) m ρ).payload (xcell c jk) 0 d = xferPay m ρ c jk := by dsimp only [xRd]; rw [which_xsem]
/-- All the barrier's round hands over, -/
theorem rest_bar : bigSep ((xRd (F := F) m ρ).duties (barCell c) 0 \ ∅) (fun d => (xRd (F := F) m ρ).payload (barCell c) 0 d) = barPay c := by
  rw [Finset.sdiff_empty, duties_bar, bigSep_singleton, payload_bar]
/-- and a transfer's. -/
theorem rest_x : bigSep ((xRd (F := F) m ρ).duties (xcell c jk) 0 \ ∅) (fun d => (xRd (F := F) m ρ).payload (xcell c jk) 0 d) = xferPay m ρ c jk := by
  rw [Finset.sdiff_empty, duties_x, bigSep_singleton, payload_x]

end Sched

/-! ## What is owed, and the levels -/

/-- The chunks, in the kernel's order. -/
abbrev chunks : List (Fin 8) := [0, 1, 2, 3, 4, 5, 6, 7]

/-- What device `c` owes its partner for the chunks still to be sent: the rows' credit and the scales'. -/
def oweL (c : Dev nD) : List (Fin 8) → CellTallies nD τ sig Unit
  | [] => 0
  | k :: ks => oweL c ks + tallyAt (xcell (peerOf c) (1, k)) () Nd + tallyAt (xcell (peerOf c) (3, k)) () Ns
/-- What it owes at launch: that for every chunk, and the barrier's unit. -/
def O₀ (c : Dev nD) : CellTallies nD τ sig Unit := oweL c chunks + tallyAt (barCell (peerOf c)) () 1

/-- The cells that have a level. -/
def L (g : GSem nD τ sig) : Finset Unit := if g.1.2 = .tc then {()} else ∅
/-- Barrier cells at 1, arriving cells at 2, the rest at 0. -/
def lv (g : GSem nD τ sig) (_ : Unit) : ℕ :=
  match g.2 with
  | .reg _ => 1
  | .dma q => if 2 ≤ q.val ∧ (which q).1.val % 2 = 1 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_odd (c : Dev nD) (jk : Jk) (h : jk.1.val % 2 = 1) (u : Unit) : lv (xcell c jk) u = 2 := by
  dsimp only [lv]; rw [which_xsem]; exact if_pos ⟨two_le_xsem jk, h⟩

/-- What is owed for chunks is owed to the partner's arriving cells. -/
theorem oweL_pos {c : Dev nD} {g : GSem nD τ sig} {u : Unit} : ∀ {ks : List (Fin 8)}, 0 < oweL c ks g u →
    ∃ jk : Jk, jk.1.val % 2 = 1 ∧ g = xcell (peerOf c) jk
  | [], h => absurd h (Nat.lt_irrefl 0)
  | k :: ks, h => by
    unfold oweL at h
    rw [Pi.add_apply, Finsupp.add_apply, Pi.add_apply, Finsupp.add_apply, tallyAt_apply, tallyAt_apply] at h
    by_cases h1 : g = xcell (peerOf c) (1, k)
    · exact ⟨(1, k), rfl, h1⟩
    by_cases h3 : g = xcell (peerOf c) (3, k)
    · exact ⟨(3, k), (by decide : (3 : Fin 4).val % 2 = 1), h3⟩
    rw [if_neg (fun h' => h1 h'.1), if_neg (fun h' => h3 h'.1), Nat.add_zero] at h
    exact oweL_pos (ks := ks) h

/-- At launch, to those and to the partner's barrier cell. -/
theorem O₀_pos {c : Dev nD} {g : GSem nD τ sig} {u : Unit} (h : 0 < O₀ c g u) :
    (∃ jk : Jk, jk.1.val % 2 = 1 ∧ g = xcell (peerOf c) jk) ∨ g = barCell (peerOf c) := by
  unfold O₀ at h
  rw [Pi.add_apply, Finsupp.add_apply, tallyAt_apply] at h
  by_cases hb : g = barCell (peerOf c)
  · exact .inr hb
  · rw [if_neg (fun h' => hb h'.1), Nat.add_zero] at h
    exact .inl (oweL_pos h)

/-- A staging wait may be made under everything owed. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨jk, _, rfl⟩ | rfl <;> exact Finset.mem_singleton_self _)
      (fun p hp => by rw [Finset.mem_singleton.mp hp]; dsimp only [lv]; rw [if_neg (fun h => by omega)])
      (fun g u hg => by
        rcases O₀_pos hg with ⟨jk, h, rfl⟩ | rfl
        · rw [lv_odd _ _ h]; decide
        · show 0 < 1; decide)
  · rw [MayWait_zero]; iintro -; iempintro

/-- The barrier's wait may be made under the chunks owed. -/
theorem mayWait_bar (c : Dev nD) :
    (levAts L lv : sProp 𝕄) ⊢ MayWait (c : Thread nD τ) (.reg barS) () (oweL c chunks) :=
  MayOwe.of_cut (L := L) (lev := lv) 1 (fun p hp => by rw [Finset.mem_singleton.mp hp, L_tc]; exact Finset.mem_singleton_self _)
    (fun g u hg => by obtain ⟨jk, _, rfl⟩ := oweL_pos hg; exact Finset.mem_singleton_self _)
    (fun p hp => by rw [Finset.mem_singleton.mp hp]; exact Nat.le_refl 1)
    (fun g u hg => by obtain ⟨jk, h, rfl⟩ := oweL_pos hg; rw [lv_odd _ _ h]; decide)

end Cert.KernelIdeal.Own
-- ==== Proof.IdealChunks.lean ====
/- The three things a device does with a chunk — send, combine, retire —, each executed once at a symbolic device and
   chunk from what it holds to what it leaves, and then over all the chunks by induction. -/
module

public import proofs.«01_k».proof.Proof.IdealProtocol

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel runs with no variants. -/
abbrev 𝒱₀ : Variants := Variants.none

/-! ## The records of the cells -/

/-- A cell of the exchange: the barrier's, or a transfer's. -/
abbrev csem : Option Jk → SemLoc sig
  | none => .reg barS
  | some jk => .dma (xsem jk)
/-- That cell on a device. -/
abbrev kcell (ck : Dev nD × Option Jk) : GSem nD τ sig := ((ck.1 : Thread nD τ), csem ck.2)

/-- Every cell's invariant, under the names `K`, and that every cell has reached round 0. -/
def records (K : Dev nD × Option Jk → ℕ) : sProp 𝕄 :=
  iprop((bigSep Finset.univ fun ck : Dev nD × Option Jk => cellInv ER (xRd m ρ) (K ck) (kcell ck))
    ∗ (bigSep Finset.univ fun ck : Dev nD × Option Jk => reached ER (kcell ck) 0))

instance records_persistent (K : Dev nD × Option Jk → ℕ) : BI.Persistent (records m ρ K) := by unfold records; infer_instance

/-- A cell's invariant is among the records, -/
theorem rec_inv (K : Dev nD × Option Jk → ℕ) (ck : Dev nD × Option Jk) : records m ρ K ⊢ cellInv ER (xRd m ρ) (K ck) (kcell ck) := by
  unfold records
  iintro ⟨H, -⟩
  have h : (bigSep Finset.univ fun ck : Dev nD × Option Jk => (cellInv ER (xRd m ρ) (K ck) (kcell ck) : sProp 𝕄)) ⊢ cellInv ER (xRd m ρ) (K ck) (kcell ck) :=
    bigSep_elim (Finset.mem_univ ck)
  iapply h
  iexact H
/-- and that it has reached round 0. -/
theorem rec_reached (K : Dev nD × Option Jk → ℕ) (ck : Dev nD × Option Jk) : records m ρ K ⊢ reached ER (kcell ck) 0 := by
  unfold records
  iintro ⟨-, H⟩
  have h : (bigSep Finset.univ fun ck : Dev nD × Option Jk => (reached ER (kcell ck) 0 : sProp 𝕄)) ⊢ reached ER (kcell ck) 0 :=
    bigSep_elim (Finset.mem_univ ck)
  iapply h
  iexact H

/-- The staged half, whole, at device `c`. -/
abbrev xPts (c : Dev nD) : sProp 𝕄 := ((c : Thread nD τ).loc cc0_stg0_0) ↦{fullShare} xstg m ρ c

/-! ## Views -/

/-- Reading the slice a flattened view is of, after writing through it what another flattened view reads, is reading
    the slice the other is of. -/
theorem read_flat {b b' : Memref sig .tc .vmem S8x128 .f32} (k : Fin 8) (fd : (spart b k).view.ty.Contents (Elt F)) (fs : (spart b' k).view.ty.Contents (Elt F)) :
    (spart b k).view.read (Elt F) ((((spart b k).squeeze S128 squeezes_S1x128_S128).view).write (Elt F) fd
      ((((spart b' k).squeeze S128 squeezes_S1x128_S128).view).read (Elt F) fs) Finset.univ) = (spart b' k).view.read (Elt F) fs := by
  funext j
  have h := congrFun (View.read_write_univ (Val := Elt F) (v := ((spart b k).squeeze S128 squeezes_S1x128_S128).view) fd
    ((((spart b' k).squeeze S128 squeezes_S1x128_S128).view).read (Elt F) fs))
  obtain ⟨i, rfl⟩ := (Shape.reshapeEquiv (s := S1x128) (s' := S128) rfl).surjective j
  exact h i

/-! ## Sending -/

/-- What sending chunk `k` uses: its own pieces, the partner's landing pieces, and the four duties it pays. -/
def sendPre (c : Dev nD) (k : Fin 8) : sProp 𝕄 :=
  iprop((∃ X, hq c mSQ k X) ∗ (∃ X, hs c mSS k X) ∗ landing (F := F) (peerOf c) k
    ∗ dutyTok ER (xcell c (0, k)) 0 () ∗ dutyTok ER (xcell (peerOf c) (1, k)) 0 () ∗ dutyTok ER (xcell c (2, k)) 0 () ∗ dutyTok ER (xcell (peerOf c) (3, k)) 0 ())
/-- What it leaves: the tokens to wait for its own copies. -/
def sendPost (c : Dev nD) (k : Fin 8) : sProp 𝕄 :=
  iprop(cred (tallyAt (xcell c (0, k)) () Nd) ∗ cred (tallyAt (xcell c (2, k)) () Ns))

set_option maxHeartbeats 1000000 in
/-- Sending a chunk. -/
theorem send_step (K : Dev nD × Option Jk → ℕ) (c : Dev nD) (k : Fin 8) (ks : List (Fin 8)) (W : Waits sig Unit) (p : Tc F) (Q : PUnit → sProp 𝕄) :
    iprop(records m ρ K ∗ sendPre c k ∗ xPts m ρ c ∗ owes (c : Thread nD τ) (oweL c (k :: ks)) W
        ∗ ((sendPost (F := F) c k ∗ xPts m ρ c ∗ owes (c : Thread nD τ) (oweL c ks) W)
            -∗ wp frame (wpE (defs₀ (F := F)) 𝒱₀ c none) Set.univ p Q))
      ⊢ wp frame (wpE (defs₀ (F := F)) 𝒱₀ c none) Set.univ (sendProg c k p) Q := by
  unfold sendPre landing sendProg hq hs owns
  iintro ⟨#HR, ⟨⟨%X0, %f0, -, HSQ⟩, ⟨%X1, %f1, -, HSS⟩, ⟨⟨%X2, %f2, -, HRQ⟩, ⟨%X3, %f3, -, HRS⟩⟩, Ht0, Ht1, Ht2, Ht3⟩, Hx, HO, Hk⟩
  iapply (wp_load 𝒱₀ (c : Thread nD τ) none Set.univ (m := mX) (Finset.subset_univ _)) $$ Hx; iintro Hx
  iapply (wp_load_rect 𝒱₀ (c : Thread nD τ) none Set.univ (m := mSS) (r := srow k) (Finset.Subset.refl _)) $$ HSS; iintro HSS
  iapply (wp_store 𝒱₀ (c : Thread nD τ) none Set.univ (m := mSS) (r := srow k) (Mk := Finset.univ) (S := (spart mSS k).view.set) (Finset.Subset.refl _)) $$ HSS; iintro HSS
  iapply (wp_load_rect 𝒱₀ (c : Thread nD τ) none Set.univ (m := mSQ) (r := rows k) (Finset.Subset.refl _)) $$ HSQ; iintro HSQ
  iapply (wp_store 𝒱₀ (c : Thread nD τ) none Set.univ (m := mSQ) (r := rows k) (Mk := Finset.univ) (S := (qpart mSQ k).view.set) (Finset.Subset.refl _)) $$ HSQ; iintro HSQ
  rw [show oweL c (k :: ks) = oweL c ks + tallyAt (xcell (peerOf c) (1, k)) () Nd + tallyAt (xcell (peerOf c) (3, k)) () Ns from rfl]
  -- the scales' copy
  iapply (Rounds.wp_send_pointsTo 𝒱₀ ER (xRd m ρ) (c : Thread nD τ) none (c' := (peerOf c : Thread nD τ)) (κ₁ := K (c, some (2, k))) (κ₂ := K (peerOf c, some (3, k)))
      (src := cSS k) (dst := cRS k) (r₁ := 0) (r₂ := 0) (d₁ := ()) (d₂ := ()) (q := fullShare)
      (fs := (mSS.access (srow k)).write (Elt F) f1 (sch m ρ c k) Finset.univ) (fd := f3)
      (by rw [duties_x m ρ c (2, k)]; exact Finset.mem_singleton_self _) (by rw [duties_x m ρ (peerOf c) (3, k)]; exact Finset.mem_singleton_self _)
      () () Ns rfl (amount_x m ρ c (2, k) ()) (amount_x m ρ (peerOf c) (3, k) ())
      (oweL c ks + tallyAt (xcell (peerOf c) (1, k)) () Nd) rfl (W := W)
      (by
        rw [payload_x m ρ c (2, k), View.set_reshape]
        iintro H; unfold xferPay hs owns
        iexists _; isplitr; swap; · iexact H
        ipureintro; exact View.read_write_univ (v := mSS.access (srow k)) f1 (sch m ρ c k))
      (by
        rw [payload_x m ρ (peerOf c) (3, k), View.set_reshape]
        iintro H; unfold xferPay hs owns
        iexists _; isplitr; swap; · iexact H
        ipureintro; dsimp only; rw [peer_peer]
        refine (read_flat (b := mRS) (b' := mSS) k f3 ((mSS.access (srow k)).write (Elt F) f1 (sch m ρ c k) Finset.univ)).trans ?_
        exact View.read_write_univ (v := mSS.access (srow k)) f1 (sch m ρ c k))) $$ [HSS HRS HO Ht2 Ht3]
  · isplitr; · iapply (rec_inv m ρ K (c, some (2, k))); iexact HR
    isplitr; · iapply (rec_inv m ρ K (peerOf c, some (3, k))); iexact HR
    isplitl [HSS]; · rw [View.set_reshape]; iexact HSS
    isplitl [HRS]; · rw [View.set_reshape]; iexact HRS
    isplitl [HO]; · iexact HO
    isplitl [Ht2]; · iexact Ht2
    isplitr; · iapply (rec_reached m ρ K (c, some (2, k))); iexact HR
    isplitl [Ht3]; · iexact Ht3
    iapply (rec_reached m ρ K (peerOf c, some (3, k))); iexact HR
  iintro ⟨Hc2, HO⟩
  -- the rows' copy
  iapply (Rounds.wp_send_pointsTo 𝒱₀ ER (xRd m ρ) (c : Thread nD τ) none (c' := (peerOf c : Thread nD τ)) (κ₁ := K (c, some (0, k))) (κ₂ := K (peerOf c, some (1, k)))
      (src := cSQ k) (dst := cRQ k) (r₁ := 0) (r₂ := 0) (d₁ := ()) (d₂ := ()) (q := fullShare)
      (fs := (mSQ.access (rows k)).write (Elt F) f0 (qch m ρ c k) Finset.univ) (fd := f2)
      (by rw [duties_x m ρ c (0, k)]; exact Finset.mem_singleton_self _) (by rw [duties_x m ρ (peerOf c) (1, k)]; exact Finset.mem_singleton_self _)
      () () Nd rfl (amount_x m ρ c (0, k) ()) (amount_x m ρ (peerOf c) (1, k) ())
      (oweL c ks) rfl (W := W)
      (by
        rw [payload_x m ρ c (0, k)]
        iintro H; unfold xferPay hq owns
        iexists _; isplitr; swap; · iexact H
        ipureintro; exact View.read_write_univ (v := mSQ.access (rows k)) f0 (qch m ρ c k))
      (by
        rw [payload_x m ρ (peerOf c) (1, k)]
        iintro H; unfold xferPay hq owns
        iexists _; isplitr; swap; · iexact H
        ipureintro; dsimp only; rw [peer_peer]
        refine (View.read_write_univ (v := (cRQ k).view) f2 _).trans ?_
        exact View.read_write_univ (v := mSQ.access (rows k)) f0 (qch m ρ c k))) $$ [HSQ HRQ HO Ht0 Ht1]
  · isplitr; · iapply (rec_inv m ρ K (c, some (0, k))); iexact HR
    isplitr; · iapply (rec_inv m ρ K (peerOf c, some (1, k))); iexact HR
    isplitl [HSQ]; · iexact HSQ
    isplitl [HRQ]; · iexact HRQ
    isplitl [HO]; · iexact HO
    isplitl [Ht0]; · iexact Ht0
    isplitr; · iapply (rec_reached m ρ K (c, some (0, k))); iexact HR
    isplitl [Ht1]; · iexact Ht1
    iapply (rec_reached m ρ K (peerOf c, some (1, k))); iexact HR
  iintro ⟨Hc0, HO⟩
  iapply Hk
  unfold sendPost
  isplitl [Hc0 Hc2]
  · isplitl [Hc0]; · iexact Hc0
    iexact Hc2
  isplitl [Hx]; · iexact Hx
  iexact HO

/-! ## Waiting -/

set_option maxHeartbeats 1000000 in
/-- A device with nothing owed waits on the cell of a transfer for its credit: it gets what the transfer hands over, and the
    cell's counter, closed at zero. -/
theorem wait_x (K : Dev nD × Option Jk → ℕ) (c : Dev nD) (jk : Jk) (n : ℕ) (hn : n = amt jk) (W : Waits sig Unit)
    (q : DmaSem sig) (hq : q = xsem jk) {sh sh' : Shape} {e e' : EltTy} (src : Memref sig .tc .vmem sh' e') (dst : Memref sig .tc .vmem sh e)
    (hsrc : src.view.WordExact) (hdst : dst.view.WordExact) (hd : dst.view.dmaCredit = n)
    (k : PUnit → Tc F) (Q : PUnit → sProp 𝕄) :
    iprop(records m ρ K ∗ cred (tallyAt (xcell c jk) () n) ∗ owes (c : Thread nD τ) 0 W ∗ atPos ER (xcell c jk) 0 ∅ 0
        ∗ ((xferPay m ρ c jk ∗ semVal (xcell c jk) 0 ∗ owes (c : Thread nD τ) 0 (insert (SemLoc.dma (xsem jk), ()) W))
            -∗ wp frame (wpE (defs₀ (F := F)) 𝒱₀ c none) Set.univ (k ⟨⟩) Q))
      ⊢ wp frame (wpE (defs₀ (F := F)) 𝒱₀ c none) Set.univ (.op (.waitDma2 q src dst hsrc hdst) k) Q := by
  subst hq
  have hw : ∀ P : PUnit → sProp 𝕄, wpE (defs₀ (F := F)) 𝒱₀ (c : Thread nD τ) none Set.univ (.waitDma2 (xsem jk) src dst hsrc hdst) P
      = waitSpec (c : Thread nD τ) Set.univ (.dma (xsem jk)) n P := fun P => by rw [← hd]; exact wpE_waitDma2_eq 𝒱₀ (c : Thread nD τ) none Set.univ P
  iintro ⟨#HR, Hc, HO, Ha, Hk⟩
  iapply (Rounds.wp_wait_rest_token 𝒱₀ ER (xRd m ρ) (c : Thread nD τ) none (κ := K (c, some jk)) (w := .waitDma2 (xsem jk) src dst hsrc hdst) (sm := .dma (xsem jk)) (k' := n)
      hw (Set.mem_univ _) () (O := 0) (W := W) (R := 0) (m := 0) (T := ∅)
      ((Nat.zero_add _).trans (hn.trans (expect_x m ρ c jk).symm))) $$ [Hc HO Ha]
  · isplitr; · iapply (rec_inv m ρ K (c, some jk)); iexact HR
    isplitl [Hc]; · iexact Hc
    isplitl [HO]; · iexact HO
    isplitr; · rw [MayWait_zero]; iempintro
    iexact Ha
  iintro ⟨HO, Ha, -, Hpay⟩
  ihave HP := (Entails.of_eq (rest_x m ρ c jk)) $$ Hpay
  imod (Rounds.cell_close ER (xRd m ρ) (Set.mem_univ (K (c, some jk))) (fun h => h) (R := 0 + 1) (duties_later m ρ (xcell c jk))) $$ [Ha] with Hz
  · isplitr; · iapply (rec_inv m ρ K (c, some jk)); iexact HR
    iexact Ha
  iapply Hk
  isplitl [HP]; · iexact HP
  isplitl [Hz]; · iexact Hz
  iexact HO

/-! ## Combining -/

/-- The first place of a row of scales. -/
def z1 : S1x128.Idx := fun a => ⟨0, by revert a; decide⟩

/-- The scale read is the first of its row. -/
theorem emb_one (k : Fin 8) (j : S1x1.Idx) : (sone k).emb j = (srow k).emb z1 := by
  funext a
  apply Fin.ext
  rw [Rect.emb_apply, Rect.emb_apply]
  have hj : (j a).val = 0 := by
    have h1 : ∀ b, S1x1.size b = 1 := by decide
    have h : (j a).val < S1x1.size a := (j a).isLt
    have h1 := h1 a
    omega
  show (![k.val, 0] : Fin 2 → Nat) a + 1 * (j a).val = (![k.val, 0] : Fin 2 → Nat) a + 1 * 0
  rw [hj]

/-- Its place is among its row's, -/
theorem one_sub (k : Fin 8) : (mRS.access (sone k)).set ⊆ (spart mRS k).view.set := by
  intro x hx
  obtain ⟨j, -, rfl⟩ := Finset.mem_map.mp hx
  refine Finset.mem_map.mpr ⟨z1, Finset.mem_univ _, ?_⟩
  show mRS.view.emb ((srow k).emb z1) = mRS.view.emb ((sone k).emb j)
  rw [emb_one]
/-- and what is read there is the row's first value. -/
theorem read_one (k : Fin 8) (f : (spart mRS k).view.ty.Contents (Elt F)) :
    (mRS.access (sone k)).read (Elt F) f = fun _ => (spart mRS k).view.read (Elt F) f z1 := by
  funext j
  show f (mRS.view.emb ((sone k).emb j)) = f (mRS.view.emb ((srow k).emb z1))
  rw [emb_one]

/-- What combining chunk `k` uses: the tokens to wait for its arrivals, its positions there, and the chunk's rows of the result. -/
def recvPre (c : Dev nD) (k : Fin 8) : sProp 𝕄 :=
  iprop(cred (tallyAt (xcell c (1, k)) () Nd) ∗ cred (tallyAt (xcell c (3, k)) () Ns)
    ∗ atPos ER (xcell c (1, k)) 0 ∅ 0 ∗ atPos ER (xcell c (3, k)) 0 ∅ 0 ∗ (∃ X, hq c mO k X))
/-- What it leaves: the chunk of the result, the landing pieces back, and the two counters at zero. -/
def recvPost (c : Dev nD) (k : Fin 8) : sProp 𝕄 :=
  iprop(hq c mO k (och m ρ c k) ∗ hq c mRQ k (qch m ρ (peerOf c) k) ∗ hs c mRS k (sch m ρ (peerOf c) k)
    ∗ semVal (xcell c (1, k)) 0 ∗ semVal (xcell c (3, k)) 0)

set_option maxHeartbeats 1000000 in
/-- Combining a chunk. -/
theorem recv_step (K : Dev nD × Option Jk → ℕ) (c : Dev nD) (k : Fin 8) (W : Waits sig Unit) (p : Tc F) (Q : PUnit → sProp 𝕄) :
    iprop(records m ρ K ∗ recvPre c k ∗ xPts m ρ c ∗ owes (c : Thread nD τ) 0 W
        ∗ ((recvPost m ρ c k ∗ xPts m ρ c ∗ ∃ W', owes (c : Thread nD τ) 0 W')
            -∗ wp frame (wpE (defs₀ (F := F)) 𝒱₀ c none) Set.univ p Q))
      ⊢ wp frame (wpE (defs₀ (F := F)) 𝒱₀ c none) Set.univ (recvProg k p) Q := by
  unfold recvPre recvProg
  iintro ⟨#HR, ⟨Hc1, Hc3, Ha1, Ha3, ⟨%X, HO'⟩⟩, Hx, HO, Hk⟩
  iapply (wait_x m ρ K c (3, k) Ns rfl W (semSR k) rfl (cSS k) (cRS k) _ _ rfl)
  isplitr; · iexact HR
  isplitl [Hc3]; · iexact Hc3
  isplitl [HO]; · iexact HO
  isplitl [Ha3]; · iexact Ha3
  iintro ⟨HRS, Hz3, HO⟩
  iapply (wait_x m ρ K c (1, k) Nd rfl _ (semDR k) rfl (cSQ k) (cRQ k) _ _ rfl)
  isplitr; · iexact HR
  isplitl [Hc1]; · iexact Hc1
  isplitl [HO]; · iexact HO
  isplitl [Ha1]; · iexact Ha1
  iintro ⟨HRQ, Hz1, HO⟩
  unfold xferPay hq hs owns
  dsimp only
  icases HRQ with ⟨%fq, %hfq, HRQ⟩
  icases HRS with ⟨%fs, %hfs, HRS⟩
  icases HO' with ⟨%fo, -, HO'⟩
  iapply (wp_load_rect 𝒱₀ (c : Thread nD τ) none Set.univ (m := mRQ) (r := rows k) (S := (qpart mRQ k).view.set) (Finset.Subset.refl _)) $$ HRQ; iintro HRQ
  iapply (wp_load_rect 𝒱₀ (c : Thread nD τ) none Set.univ (m := mRS) (r := sone k) (S := (spart mRS k).view.set) (one_sub k)) $$ HRS; iintro HRS
  iapply (wp_load 𝒱₀ (c : Thread nD τ) none Set.univ (m := mX) (Finset.subset_univ _)) $$ Hx; iintro Hx
  iapply (wp_load_rect 𝒱₀ (c : Thread nD τ) none Set.univ (m := mO) (r := rows k) (S := (qpart mO k).view.set) (Finset.Subset.refl _)) $$ HO'; iintro HO'
  iapply (wp_store 𝒱₀ (c : Thread nD τ) none Set.univ (m := mO) (r := rows k) (Mk := Finset.univ) (S := (qpart mO k).view.set) (Finset.Subset.refl _)) $$ HO'; iintro HO'
  iapply Hk
  unfold recvPost hq hs owns
  isplitl [HO' HRQ HRS Hz1 Hz3]
  · isplitl [HO']
    · iexists _; isplitr; swap; · iexact HO'
      ipureintro
      refine (View.read_write_univ (v := mO.access (rows k)) fo _).trans ?_
      rw [read_one]
      rw [show (mRQ.access (rows k)).read (Elt F) fq = qch m ρ (peerOf c) k from hfq, show (spart mRS k).view.read (Elt F) fs = sch m ρ (peerOf c) k from hfs]
      rfl
    isplitl [HRQ]
    · iexists fq; isplitr; · ipureintro; exact hfq
      iexact HRQ
    isplitl [HRS]
    · iexists fs; isplitr; · ipureintro; exact hfs
      iexact HRS
    isplitl [Hz1]; · iexact Hz1
    iexact Hz3
  isplitl [Hx]; · iexact Hx
  iexists _; iexact HO

/-! ## Retiring -/

/-- What retiring chunk `k` uses: the tokens to wait for its own copies and its positions there. -/
def finPre (c : Dev nD) (k : Fin 8) : sProp 𝕄 :=
  iprop(sendPost (F := F) c k ∗ atPos ER (xcell c (0, k)) 0 ∅ 0 ∗ atPos ER (xcell c (2, k)) 0 ∅ 0)
/-- What it leaves: its pieces back and the two counters at zero. -/
def finPost (c : Dev nD) (k : Fin 8) : sProp 𝕄 :=
  iprop(hq c mSQ k (qch m ρ c k) ∗ hs c mSS k (sch m ρ c k) ∗ semVal (xcell c (0, k)) 0 ∗ semVal (xcell c (2, k)) 0)

set_option maxHeartbeats 1000000 in
/-- Retiring a chunk. -/
theorem fin_step (K : Dev nD × Option Jk → ℕ) (c : Dev nD) (k : Fin 8) (W : Waits sig Unit) (p : Tc F) (Q : PUnit → sProp 𝕄) :
    iprop(records m ρ K ∗ finPre c k ∗ owes (c : Thread nD τ) 0 W
        ∗ ((finPost m ρ c k ∗ ∃ W', owes (c : Thread nD τ) 0 W')
            -∗ wp frame (wpE (defs₀ (F := F)) 𝒱₀ c none) Set.univ p Q))
      ⊢ wp frame (wpE (defs₀ (F := F)) 𝒱₀ c none) Set.univ (finProg k p) Q := by
  unfold finPre sendPost finProg
  iintro ⟨#HR, ⟨⟨Hc0, Hc2⟩, Ha0, Ha2⟩, HO, Hk⟩
  iapply (wait_x m ρ K c (2, k) Ns rfl W (semSS k) rfl (cRS k) (cSS k) _ _ rfl)
  isplitr; · iexact HR
  isplitl [Hc2]; · iexact Hc2
  isplitl [HO]; · iexact HO
  isplitl [Ha2]; · iexact Ha2
  iintro ⟨HSS, Hz2, HO⟩
  iapply (wait_x m ρ K c (0, k) Nd rfl _ (semDS k) rfl (cRQ k) (cSQ k) _ _ rfl)
  isplitr; · iexact HR
  isplitl [Hc0]; · iexact Hc0
  isplitl [HO]; · iexact HO
  isplitl [Ha0]; · iexact Ha0
  iintro ⟨HSQ, Hz0, HO⟩
  iapply Hk
  unfold finPost xferPay
  dsimp only
  isplitr [HO]; swap; · iexists _; iexact HO
  isplitl [HSQ]; · iexact HSQ
  isplitl [HSS]; · iexact HSS
  isplitl [Hz0]; · iexact Hz0
  iexact Hz2

end Cert.KernelIdeal.Own
-- ==== Proof.IdealPieces.lean ====
/- The buffers by chunk: a buffer of the half's shape is its eight chunks of rows, an array of scales its eight rows; held
   whole, it is held piece by piece, and back. -/
module

public import proofs.«01_k».proof.Proof.IdealProtocol

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A value at hand is some value. -/
theorem some_intro {α : Type} (Φ : α → sProp 𝕄) (a : α) : Φ a ⊢ iprop(∃ a, Φ a) := by
  iintro H; iexists a; iexact H

/-- A place of a rectangle is in it. -/
theorem mem_emb {s : Shape} (r : Rect s) (j : r.shape.Idx) : r.emb j ∈ r.set :=
  r.mem_set.mpr fun a => ⟨(j a).val, (j a).isLt, rfl⟩

/-! ## Where a place lies -/

/-- The chunk a row lies in, -/
def chunkIx (i : S2048x512.Idx) : Fin 8 := ⟨(i (0 : Fin 2)).val / 256, by
  have h : (i (0 : Fin 2)).val < 2048 := (i (0 : Fin 2)).isLt
  omega⟩
/-- and the place in the chunk. -/
def rowIx (i : S2048x512.Idx) : S256x512.Idx
  | ⟨0, _⟩ => ⟨(i (0 : Fin 2)).val % 256, Nat.mod_lt _ (by decide)⟩
  | ⟨1, _⟩ => ⟨(i (1 : Fin 2)).val, (i (1 : Fin 2)).isLt⟩

theorem chunkIx_emb (k : Fin 8) (j : S256x512.Idx) : chunkIx ((rows k).emb j) = k := by
  apply Fin.ext
  show (256 * k.val + 1 * (j (0 : Fin 2)).val) / 256 = k.val
  have h : (j (0 : Fin 2)).val < 256 := (j (0 : Fin 2)).isLt
  omega
theorem rowIx_emb (k : Fin 8) (j : S256x512.Idx) : rowIx ((rows k).emb j) = j := by
  funext a
  have h : (j (0 : Fin 2)).val < 256 := (j (0 : Fin 2)).isLt
  fin_cases a
  · apply Fin.ext
    show (256 * k.val + 1 * (j (0 : Fin 2)).val) % 256 = (j (0 : Fin 2)).val
    omega
  · apply Fin.ext
    show 0 + 1 * (j (1 : Fin 2)).val = (j (1 : Fin 2)).val
    omega
theorem emb_rowIx (i : S2048x512.Idx) : (rows (chunkIx i)).emb (rowIx i) = i := by
  funext a
  fin_cases a
  · apply Fin.ext
    show 256 * ((i (0 : Fin 2)).val / 256) + 1 * ((i (0 : Fin 2)).val % 256) = (i (0 : Fin 2)).val
    omega
  · apply Fin.ext
    show 0 + 1 * (i (1 : Fin 2)).val = (i (1 : Fin 2)).val
    omega

/-- Different chunks share no row, -/
theorem rows_disj (k k' : Fin 8) (h : k ≠ k') : Disjoint (rows k).set (rows k').set := by
  rw [Finset.disjoint_left]
  intro x hx hx'
  have h1 := Rect.mem_set_unit.mp hx (0 : Fin 2)
  have h2 := Rect.mem_set_unit.mp hx' (0 : Fin 2)
  have e1 : 256 * k.val ≤ (x (0 : Fin 2)).val ∧ (x (0 : Fin 2)).val < 256 * k.val + 256 := h1
  have e2 : 256 * k'.val ≤ (x (0 : Fin 2)).val ∧ (x (0 : Fin 2)).val < 256 * k'.val + 256 := h2
  exact h (Fin.ext (by omega))
/-- and together they are all the rows. -/
theorem rows_cov : Finset.univ.biUnion (fun k => (rows k).set) = Finset.univ :=
  Finset.eq_univ_of_forall fun i => Finset.mem_biUnion.mpr ⟨chunkIx i, Finset.mem_univ _, by
    have h := mem_emb (rows (chunkIx i)) (rowIx i)
    rwa [emb_rowIx] at h⟩

/-- The chunk a row of scales belongs to, -/
def chunkS (i : S8x128.Idx) : Fin 8 := ⟨(i (0 : Fin 2)).val, (i (0 : Fin 2)).isLt⟩
/-- and the place in the row. -/
def rowS (i : S8x128.Idx) : S1x128.Idx
  | ⟨0, _⟩ => ⟨0, Nat.one_pos⟩
  | ⟨1, _⟩ => ⟨(i (1 : Fin 2)).val, (i (1 : Fin 2)).isLt⟩

theorem chunkS_emb (k : Fin 8) (j : S1x128.Idx) : chunkS ((srow k).emb j) = k := by
  apply Fin.ext
  show k.val + 1 * (j (0 : Fin 2)).val = k.val
  have h : (j (0 : Fin 2)).val < 1 := (j (0 : Fin 2)).isLt
  omega
theorem rowS_emb (k : Fin 8) (j : S1x128.Idx) : rowS ((srow k).emb j) = j := by
  funext a
  have h : (j (0 : Fin 2)).val < 1 := (j (0 : Fin 2)).isLt
  fin_cases a
  · apply Fin.ext
    show 0 = (j (0 : Fin 2)).val
    omega
  · apply Fin.ext
    show 0 + 1 * (j (1 : Fin 2)).val = (j (1 : Fin 2)).val
    omega
theorem emb_rowS (i : S8x128.Idx) : (srow (chunkS i)).emb (rowS i) = i := by
  funext a
  fin_cases a
  · apply Fin.ext
    show (i (0 : Fin 2)).val + 1 * 0 = (i (0 : Fin 2)).val
    omega
  · apply Fin.ext
    show 0 + 1 * (i (1 : Fin 2)).val = (i (1 : Fin 2)).val
    omega
theorem srow_disj (k k' : Fin 8) (h : k ≠ k') : Disjoint (srow k).set (srow k').set := by
  rw [Finset.disjoint_left]
  intro x hx hx'
  have h1 := Rect.mem_set_unit.mp hx (0 : Fin 2)
  have h2 := Rect.mem_set_unit.mp hx' (0 : Fin 2)
  have e1 : k.val ≤ (x (0 : Fin 2)).val ∧ (x (0 : Fin 2)).val < k.val + 1 := h1
  have e2 : k'.val ≤ (x (0 : Fin 2)).val ∧ (x (0 : Fin 2)).val < k'.val + 1 := h2
  exact h (Fin.ext (by omega))
theorem srow_cov : Finset.univ.biUnion (fun k => (srow k).set) = Finset.univ :=
  Finset.eq_univ_of_forall fun i => Finset.mem_biUnion.mpr ⟨chunkS i, Finset.mem_univ _, by
    have h := mem_emb (srow (chunkS i)) (rowS i)
    rwa [emb_rowS] at h⟩

/-! ## Whole and in pieces -/

/-- A buffer held whole is held by chunks, with some contents. -/
theorem q_split {e : EltTy} (c : Dev nD) (M : Memref sig .tc .vmem S2048x512 e) (X : S2048x512.Idx → Elt F e) :
    (owns (c : Thread nD τ) M fullShare X : sProp 𝕄) ⊢ bigSep Finset.univ fun k : Fin 8 => iprop(∃ Y, hq c M k Y) := by
  refine (owns_rects (c : Thread nD τ) M fullShare rows (fun _ _ => rfl) rows_disj rows_cov X).trans (bigSep_mono fun k _ => some_intro (fun Y => hq c M k Y) _)
/-- Held by chunks of contents `Y`, it is held whole. -/
theorem q_glue {e : EltTy} (c : Dev nD) (M : Memref sig .tc .vmem S2048x512 e) (Y : Fin 8 → S256x512.Idx → Elt F e) :
    (bigSep Finset.univ fun k : Fin 8 => (hq c M k (Y k) : sProp 𝕄)) ⊢ owns (c : Thread nD τ) M fullShare (fun i => Y (chunkIx i) (rowIx i)) := by
  refine BI.Entails.trans (Entails.of_eq (bigSep_congr fun k _ => ?_))
    (owns_of_rects (c : Thread nD τ) M fullShare rows (fun _ _ => rfl) rows_disj rows_cov (fun i => Y (chunkIx i) (rowIx i)))
  have h : (fun j => Y (chunkIx ((rows k).emb j)) (rowIx ((rows k).emb j))) = Y k := by
    funext j; rw [chunkIx_emb, rowIx_emb]
  exact congrArg (owns (c : Thread nD τ) (qpart M k) fullShare) h.symm
/-- Held by chunks of some contents, it is held whole with some. -/
theorem q_join {e : EltTy} (c : Dev nD) (M : Memref sig .tc .vmem S2048x512 e) :
    (bigSep Finset.univ fun k : Fin 8 => (iprop(∃ Y, hq c M k Y) : sProp 𝕄)) ⊢ iprop(∃ X, owns (c : Thread nD τ) M fullShare X) := by
  haveI : Nonempty (S256x512.Idx → Elt F e) := ⟨fun _ => Classical.arbitrary _⟩
  refine BIBase.Entails.trans (bigSep_exists_pi Finset.univ (fun k Y => hq c M k Y)) ?_
  iintro ⟨%Y, H⟩
  iexists _
  iapply (q_glue c M Y)
  iexact H

/-- An array of scales held whole is held by rows, with some contents, -/
theorem s_split (c : Dev nD) (M : Memref sig .tc .vmem S8x128 .f32) (X : S8x128.Idx → Elt F .f32) :
    (owns (c : Thread nD τ) M fullShare X : sProp 𝕄) ⊢ bigSep Finset.univ fun k : Fin 8 => iprop(∃ Y, hs c M k Y) := by
  refine (owns_rects (c : Thread nD τ) M fullShare srow (fun _ _ => rfl) srow_disj srow_cov X).trans (bigSep_mono fun k _ => some_intro (fun Y => hs c M k Y) _)
/-- and back. -/
theorem s_join (c : Dev nD) (M : Memref sig .tc .vmem S8x128 .f32) :
    (bigSep Finset.univ fun k : Fin 8 => (iprop(∃ Y, hs c M k Y) : sProp 𝕄)) ⊢ iprop(∃ X, owns (c : Thread nD τ) M fullShare X) := by
  haveI : Nonempty (S1x128.Idx → Elt F .f32) := ⟨fun _ => (inferInstance : ∀ e, Nonempty (Elt F e)) .f32 |>.some⟩
  refine BIBase.Entails.trans (bigSep_exists_pi Finset.univ (fun k Y => hs c M k Y)) ?_
  iintro ⟨%Y, H⟩
  iexists (fun i => Y (chunkS i) (rowS i))
  have hg : (bigSep Finset.univ fun k : Fin 8 => (hs c M k (Y k) : sProp 𝕄)) ⊢ owns (c : Thread nD τ) M fullShare (fun i => Y (chunkS i) (rowS i)) := by
    refine BI.Entails.trans (Entails.of_eq (bigSep_congr fun k _ => ?_))
      (owns_of_rects (c : Thread nD τ) M fullShare srow (fun _ _ => rfl) srow_disj srow_cov (fun i => Y (chunkS i) (rowS i)))
    have h : (fun j => Y (chunkS ((srow k).emb j)) (rowS ((srow k).emb j))) = Y k := by
      funext j; rw [chunkS_emb, rowS_emb]
    exact congrArg (owns (c : Thread nD τ) (spart M k) fullShare) h.symm
  iapply hg
  iexact H

/-- Holding a whole buffer is holding its points. -/
theorem owns_whole_pts (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Own
-- ==== Proof.IdealBody.lean ====
/- The body of the kernel at a symbolic device: the chunk steps over all the chunks, the entry barrier before them, and the
   pipeline's obligation. -/
module

public import proofs.«01_k».proof.Proof.IdealChunks
public import proofs.«01_k».proof.Proof.IdealPieces

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All the chunks -/

/-- A chain over a list takes its head apart. -/
theorem chain_cons (Φ : Fin 8 → sProp 𝕄) (k : Fin 8) (ks : List (Fin 8)) : bigSepL (k :: ks) Φ = iprop(Φ k ∗ bigSepL ks Φ) :=
  bigSepL_cons k ks Φ

/-- Everything over the chunks is the chain over their list. -/
theorem chain_all (Φ : Fin 8 → sProp 𝕄) : bigSep Finset.univ Φ = bigSepL chunks Φ :=
  bigSep_univ_eq_bigSepL chunks (by decide) (by decide) Φ

/-- Sending the chunks of a list. -/
theorem send_all (K : Dev nD × Option Jk → ℕ) (c : Dev nD) (ks : List (Fin 8)) (W : Waits sig Unit) (p : Tc F) (Q : PUnit → sProp 𝕄) :
    iprop(records m ρ K ∗ bigSepL ks (sendPre c) ∗ xPts m ρ c ∗ owes (c : Thread nD τ) (oweL c ks) W
        ∗ ((bigSepL ks (sendPost (F := F) c) ∗ xPts m ρ c ∗ owes (c : Thread nD τ) 0 W)
            -∗ wp frame (wpE (defs₀ (F := F)) 𝒱₀ c none) Set.univ p Q))
      ⊢ wp frame (wpE (defs₀ (F := F)) 𝒱₀ c none) Set.univ (ks.foldr (sendProg c) p) Q := by
  induction ks with
  | nil =>
    rw [List.foldr_nil]
    iintro ⟨-, -, Hx, HO, Hk⟩
    iapply Hk
    isplitr; · iempintro
    isplitl [Hx]; · iexact Hx
    iexact HO
  | cons k ks ih =>
    rw [chain_cons, chain_cons, List.foldr_cons]
    iintro ⟨#HR, ⟨H1, H2⟩, Hx, HO, Hk⟩
    iapply (send_step m ρ K c k ks W (ks.foldr (sendProg c) p) Q)
    isplitr; · iexact HR
    isplitl [H1]; · iexact H1
    isplitl [Hx]; · iexact Hx
    isplitl [HO]; · iexact HO
    iintro ⟨HT, Hx, HO⟩
    iapply ih
    isplitr; · iexact HR
    isplitl [H2]; · iexact H2
    isplitl [Hx]; · iexact Hx
    isplitl [HO]; · iexact HO
    iintro ⟨HTs, Hx, HO⟩
    iapply Hk
    isplitl [HT HTs]
    · isplitl [HT]; · iexact HT
      iexact HTs
    isplitl [Hx]; · iexact Hx
    iexact HO

/-- Combining the chunks of a list. -/
theorem recv_all (K : Dev nD × Option Jk → ℕ) (c : Dev nD) (ks : List (Fin 8)) (p : Tc F) (Q : PUnit → sProp 𝕄) :
    iprop(records m ρ K ∗ bigSepL ks (recvPre c) ∗ xPts m ρ c ∗ (∃ W, owes (c : Thread nD τ) 0 W)
        ∗ ((bigSepL ks (recvPost m ρ c) ∗ xPts m ρ c ∗ ∃ W, owes (c : Thread nD τ) 0 W)
            -∗ wp frame (wpE (defs₀ (F := F)) 𝒱₀ c none) Set.univ p Q))
      ⊢ wp frame (wpE (defs₀ (F := F)) 𝒱₀ c none) Set.univ (ks.foldr recvProg p) Q := by
  induction ks with
  | nil =>
    rw [List.foldr_nil]
    iintro ⟨-, -, Hx, HO, Hk⟩
    iapply Hk
    isplitr; · iempintro
    isplitl [Hx]; · iexact Hx
    iexact HO
  | cons k ks ih =>
    rw [chain_cons, chain_cons, List.foldr_cons]
    iintro ⟨#HR, ⟨H1, H2⟩, Hx, ⟨%W, HO⟩, Hk⟩
    iapply (recv_step m ρ K c k W (ks.foldr recvProg p) Q)
    isplitr; · iexact HR
    isplitl [H1]; · iexact H1
    isplitl [Hx]; · iexact Hx
    isplitl [HO]; · iexact HO
    iintro ⟨HT, Hx, HO⟩
    iapply ih
    isplitr; · iexact HR
    isplitl [H2]; · iexact H2
    isplitl [Hx]; · iexact Hx
    isplitl [HO]; · iexact HO
    iintro ⟨HTs, Hx, HO⟩
    iapply Hk
    isplitl [HT HTs]
    · isplitl [HT]; · iexact HT
      iexact HTs
    isplitl [Hx]; · iexact Hx
    iexact HO

/-- Retiring the chunks of a list. -/
theorem fin_all (K : Dev nD × Option Jk → ℕ) (c : Dev nD) (ks : List (Fin 8)) (p : Tc F) (Q : PUnit → sProp 𝕄) :
    iprop(records m ρ K ∗ bigSepL ks (finPre (F := F) c) ∗ (∃ W, owes (c : Thread nD τ) 0 W)
        ∗ ((bigSepL ks (finPost m ρ c) ∗ ∃ W, owes (c : Thread nD τ) 0 W)
            -∗ wp frame (wpE (defs₀ (F := F)) 𝒱₀ c none) Set.univ p Q))
      ⊢ wp frame (wpE (defs₀ (F := F)) 𝒱₀ c none) Set.univ (ks.foldr finProg p) Q := by
  induction ks with
  | nil =>
    rw [List.foldr_nil]
    iintro ⟨-, -, HO, Hk⟩
    iapply Hk
    isplitr; · iempintro
    iexact HO
  | cons k ks ih =>
    rw [chain_cons, chain_cons, List.foldr_cons]
    iintro ⟨#HR, ⟨H1, H2⟩, ⟨%W, HO⟩, Hk⟩
    iapply (fin_step m ρ K c k W (ks.foldr finProg p) Q)
    isplitr; · iexact HR
    isplitl [H1]; · iexact H1
    isplitl [HO]; · iexact HO
    iintro ⟨HT, HO⟩
    iapply ih
    isplitr; · iexact HR
    isplitl [H2]; · iexact H2
    isplitl [HO]; · iexact HO
    iintro ⟨HTs, HO⟩
    iapply Hk
    isplitl [HT HTs]
    · isplitl [HT]; · iexact HT
      iexact HTs
    iexact HO

/-- The chunks' programs are the steps folded over their list. -/
theorem sendAll_eq (c : Dev nD) : sendAll (F := F) c = chunks.foldr (sendProg c) (chunks.foldr recvProg (chunks.foldr finProg (.ret ⟨⟩))) := rfl

/-! ## What a device starts from and ends with -/

/-- Whose cell the duty of a kind of transfer, paid by `c`, is at: an arrival's is the partner's. -/
def tgt (c : Dev nD) (a : Fin 4) : Dev nD := if a.val % 2 = 1 then peerOf c else c

/-- Everything over the transfers is everything over the chunks, kind by kind. -/
theorem kinds (Φ : Jk → sProp 𝕄) : bigSep Finset.univ Φ
    = iprop((bigSep Finset.univ fun k : Fin 8 => Φ (0, k)) ∗ (bigSep Finset.univ fun k : Fin 8 => Φ (1, k))
        ∗ (bigSep Finset.univ fun k : Fin 8 => Φ (2, k)) ∗ (bigSep Finset.univ fun k : Fin 8 => Φ (3, k))) := by
  rw [bigSep_univ_prod, bigSep_univ_eq_bigSepL [0, 1, 2, 3] (by decide) (by decide)]
  rfl

/-- The records, and what is the device's alone: its positions at its own cells and the duties it pays. -/
def ghost (K : Dev nD × Option Jk → ℕ) (c : Dev nD) : sProp 𝕄 :=
  iprop(records m ρ K ∗ (atPos ER (barCell c) 0 ∅ 0 ∗ (bigSep Finset.univ fun jk : Jk => atPos ER (xcell c jk) 0 ∅ 0))
    ∗ dutyTok ER (barCell (peerOf c)) 0 () ∗ (bigSep Finset.univ fun jk : Jk => dutyTok ER (xcell (tgt c jk.1) jk) 0 ()))
/-- The tokens to wait for what the partner owes. -/
def waitToks (c : Dev nD) : sProp 𝕄 :=
  iprop(cred (tallyAt (barCell c) () 1) ∗ (bigSep Finset.univ fun k : Fin 8 => cred (tallyAt (xcell c (1, k)) () Nd))
    ∗ (bigSep Finset.univ fun k : Fin 8 => cred (tallyAt (xcell c (3, k)) () Ns)))
/-- What a device starts from, besides its buffers. -/
def start (c : Dev nD) : sProp 𝕄 := iprop((∃ K, ghost m ρ K c) ∗ waitToks (F := F) c ∗ levAts L lv)
/-- Its scratch buffers, by chunks. -/
def pieces (c : Dev nD) : sProp 𝕄 :=
  iprop((bigSep Finset.univ fun k : Fin 8 => iprop(∃ X, hq (F := F) c mSQ k X)) ∗ (bigSep Finset.univ fun k : Fin 8 => iprop(∃ X, hs (F := F) c mSS k X))
    ∗ (bigSep Finset.univ fun k : Fin 8 => iprop(∃ X, hq (F := F) c mRQ k X)) ∗ (bigSep Finset.univ fun k : Fin 8 => iprop(∃ X, hs (F := F) c mRS k X)))
/-- What the point starts from. -/
def Φ₀ (c : Dev nD) : sProp 𝕄 := iprop(start m ρ c ∗ pieces (F := F) c)
/-- What it leaves: the scratch buffers, and every counter at zero. -/
def Φ₁ (c : Dev nD) : sProp 𝕄 :=
  iprop(pieces (F := F) c ∗ (bigSep Finset.univ fun jk : Jk => semVal (xcell c jk) 0) ∗ semVal (barCell c) 0)

/-- The result on device `c`, by chunks. -/
def outAt (c : Dev nD) : (cc0_stg1_0 : Ref sig .tc).ty.Contents (Elt F) := fun i => och m ρ c (chunkIx i) (rowIx i)

/-- The pipeline's proof data. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-! ## The body -/

/-- The arrivals' landing pieces, by chunk. -/
theorem landing_all (c : Dev nD) : (bigSep Finset.univ fun k : Fin 8 => landing (F := F) c k : sProp 𝕄)
    = iprop((bigSep Finset.univ fun k : Fin 8 => iprop(∃ X, hq (F := F) c mRQ k X)) ∗ (bigSep Finset.univ fun k : Fin 8 => iprop(∃ X, hs (F := F) c mRS k X))) := by
  unfold landing; rw [bigSep_sep']

/-- What sending uses, by chunk, from its parts. -/
theorem sendPre_all (c : Dev nD) :
    iprop((bigSep Finset.univ fun k : Fin 8 => iprop(∃ X, hq (F := F) c mSQ k X)) ∗ (bigSep Finset.univ fun k : Fin 8 => iprop(∃ X, hs (F := F) c mSS k X))
      ∗ (bigSep Finset.univ fun k : Fin 8 => landing (F := F) (peerOf c) k)
      ∗ (bigSep Finset.univ fun k : Fin 8 => dutyTok ER (xcell c (0, k)) 0 ()) ∗ (bigSep Finset.univ fun k : Fin 8 => dutyTok ER (xcell (peerOf c) (1, k)) 0 ())
      ∗ (bigSep Finset.univ fun k : Fin 8 => dutyTok ER (xcell c (2, k)) 0 ()) ∗ (bigSep Finset.univ fun k : Fin 8 => dutyTok ER (xcell (peerOf c) (3, k)) 0 ()))
      = (bigSepL chunks (sendPre (F := F) c) : sProp 𝕄) := by
  rw [← chain_all]; unfold sendPre; simp only [bigSep_sep']
/-- What combining uses. -/
theorem recvPre_all (c : Dev nD) :
    iprop((bigSep Finset.univ fun k : Fin 8 => cred (tallyAt (xcell c (1, k)) () Nd)) ∗ (bigSep Finset.univ fun k : Fin 8 => cred (tallyAt (xcell c (3, k)) () Ns))
      ∗ (bigSep Finset.univ fun k : Fin 8 => atPos ER (xcell c (1, k)) 0 ∅ 0) ∗ (bigSep Finset.univ fun k : Fin 8 => atPos ER (xcell c (3, k)) 0 ∅ 0)
      ∗ (bigSep Finset.univ fun k : Fin 8 => iprop(∃ X, hq (F := F) c mO k X)))
      = (bigSepL chunks (recvPre (F := F) c) : sProp 𝕄) := by
  rw [← chain_all]; unfold recvPre; simp only [bigSep_sep']
/-- What combining leaves. -/
theorem recvPost_all (c : Dev nD) : (bigSepL chunks (recvPost m ρ c) : sProp 𝕄)
    = iprop((bigSep Finset.univ fun k : Fin 8 => hq c mO k (och m ρ c k)) ∗ (bigSep Finset.univ fun k : Fin 8 => hq c mRQ k (qch m ρ (peerOf c) k))
      ∗ (bigSep Finset.univ fun k : Fin 8 => hs c mRS k (sch m ρ (peerOf c) k))
      ∗ (bigSep Finset.univ fun k : Fin 8 => semVal (xcell c (1, k)) 0) ∗ (bigSep Finset.univ fun k : Fin 8 => semVal (xcell c (3, k)) 0)) := by
  rw [← chain_all]; unfold recvPost; simp only [bigSep_sep']
/-- What retiring uses. -/
theorem finPre_all (c : Dev nD) :
    iprop(bigSepL chunks (sendPost (F := F) c)
      ∗ (bigSep Finset.univ fun k : Fin 8 => atPos ER (xcell c (0, k)) 0 ∅ 0) ∗ (bigSep Finset.univ fun k : Fin 8 => atPos ER (xcell c (2, k)) 0 ∅ 0))
      = (bigSepL chunks (finPre (F := F) c) : sProp 𝕄) := by
  rw [← chain_all, ← chain_all]; unfold finPre; simp only [bigSep_sep']
/-- What retiring leaves. -/
theorem finPost_all (c : Dev nD) : (bigSepL chunks (finPost m ρ c) : sProp 𝕄)
    = iprop((bigSep Finset.univ fun k : Fin 8 => hq c mSQ k (qch m ρ c k)) ∗ (bigSep Finset.univ fun k : Fin 8 => hs c mSS k (sch m ρ c k))
      ∗ (bigSep Finset.univ fun k : Fin 8 => semVal (xcell c (0, k)) 0) ∗ (bigSep Finset.univ fun k : Fin 8 => semVal (xcell c (2, k)) 0)) := by
  rw [← chain_all]; unfold finPost; simp only [bigSep_sep']

/-- Chunks of known contents are chunks of some. -/
theorem forget_q {e : EltTy} (c : Dev nD) (M : Memref sig .tc .vmem S2048x512 e) (Y : Fin 8 → S256x512.Idx → Elt F e) :
    (bigSep Finset.univ fun k : Fin 8 => (hq c M k (Y k) : sProp 𝕄)) ⊢ bigSep Finset.univ fun k : Fin 8 => iprop(∃ X, hq c M k X) :=
  bigSep_mono fun k _ => some_intro (fun X => hq c M k X) (Y k)
/-- Rows of scales likewise. -/
theorem forget_s (c : Dev nD) (M : Memref sig .tc .vmem S8x128 .f32) (Y : Fin 8 → S1x128.Idx → Elt F .f32) :
    (bigSep Finset.univ fun k : Fin 8 => (hs c M k (Y k) : sProp 𝕄)) ⊢ bigSep Finset.univ fun k : Fin 8 => iprop(∃ X, hs c M k X) :=
  bigSep_mono fun k _ => some_intro (fun X => hs c M k X) (Y k)

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body runs from, -/
def bodyPre (c : Dev nD) : sProp 𝕄 :=
  iprop(Φ₀ m ρ c
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and to. -/
def bodyPost (c : Dev nD) : sProp 𝕄 :=
  iprop(Φ₁ (F := F) c ∗ (dats m ρ 0 c).owesAt () t0_0.succ ∗ stg c cc0_stg0_0 (xstg m ρ c) ∗ stg c cc0_stg1_0 (outAt m ρ c))

set_option maxHeartbeats 2000000 in
/-- The body at a symbolic device. -/
theorem sound_body (c : Dev nD) :
    bodyPre m ρ c ⊢ wp frame (wpE (defs₀ (F := F)) 𝒱₀ c none) Set.univ (bodyAt0 (F := F) t0_0) (fun _ => bodyPost m ρ c) := by
  rw [body_eq]
  simp only [wp_deviceId]
  unfold bodyPre Φ₀ start ghost waitToks pieces
  iintro ⟨⟨⟨⟨%K, #HR, ⟨HaB, Ha⟩, HtB, Ht⟩, ⟨HcB, Hc1, Hc3⟩, #Hlev⟩, HSQ, HSS, HRQ, HRS⟩,
    Ho, ⟨%d0, %g0, %hg0, Hx⟩, ⟨%d1, %g1, %hg1, Hout⟩⟩
  ihave Ha := (Entails.of_eq (kinds _)) $$ Ha
  ihave Ht := (Entails.of_eq (kinds _)) $$ Ht
  icases Ha with ⟨Ha0, Ha1, Ha2, Ha3⟩
  icases Ht with ⟨Ht0, Ht1, Ht2, Ht3⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = oweL c chunks + tallyAt (barCell (peerOf c)) () 1 from rfl]
  -- the signal to the partner's barrier, with all the landing pieces
  iapply (Rounds.wp_signal 𝒱₀ ER (xRd m ρ) (c : Thread nD τ) none (dst := (peerOf c : Thread nD τ)) (κ := K (peerOf c, none))
      (d := ()) (by rw [duties_bar]; exact Finset.mem_univ _) ((amount_bar m ρ (peerOf c) ()).trans (by decide)) () (oweL c chunks) rfl)
    $$ [HO HtB HRQ HRS]
  · isplitr; · iapply (rec_inv m ρ K (peerOf c, none)); iexact HR
    isplitl [HO]; · iexact HO
    isplitl [HtB]; · iexact HtB
    isplitl [HRQ HRS]
    · rw [payload_bar]; unfold barPay; rw [peer_peer, landing_all]
      isplitl [HRQ]; · iexact HRQ
      iexact HRS
    iapply (rec_reached m ρ K (peerOf c, none)); iexact HR
  iintro HO
  -- the wait on its own, which hands over the partner's landing pieces
  iapply (Rounds.wp_wait_rest_token 𝒱₀ ER (xRd m ρ) (c : Thread nD τ) none (κ := K (c, none))
      (wpE_semWait_eq 𝒱₀ (c : Thread nD τ) none Set.univ) (Set.mem_univ _) () (O := oweL c chunks) (W := W) (R := 0) (m := 0) (T := ∅)
      (by rw [expect_bar])) $$ [HcB HO HaB]
  · isplitr; · iapply (rec_inv m ρ K (c, none)); iexact HR
    isplitl [HcB]; · iexact HcB
    isplitl [HO]; · iexact HO
    isplitr; · iapply (mayWait_bar c); iexact Hlev
    iexact HaB
  iintro ⟨HO, HaB, -, Hpay⟩
  ihave Hland := (Entails.of_eq (rest_bar m ρ c)) $$ Hpay
  imod (Rounds.cell_close ER (xRd m ρ) (Set.mem_univ (K (c, none))) (fun h => h) (R := 0 + 1) (duties_later m ρ (barCell c))) $$ [HaB] with HzB
  · isplitr; · iapply (rec_inv m ρ K (c, none)); iexact HR
    iexact HaB
  unfold barPay
  rw [sendAll_eq]
  ihave Hx : xPts m ρ c $$ [Hx]
  · iexact Hx
  -- the chunks sent
  iapply (send_all m ρ K c chunks (insert (SemLoc.reg barS, ()) W))
  isplitr; · iexact HR
  isplitl [HSQ HSS Hland Ht0 Ht1 Ht2 Ht3]
  · iapply (Entails.of_eq (sendPre_all c))
    isplitl [HSQ]; · iexact HSQ
    isplitl [HSS]; · iexact HSS
    isplitl [Hland]; · iexact Hland
    isplitl [Ht0]; · iexact Ht0
    isplitl [Ht1]; · iexact Ht1
    isplitl [Ht2]; · iexact Ht2
    iexact Ht3
  isplitl [Hx]; · iexact Hx
  isplitl [HO]; · iexact HO
  iintro ⟨HT, Hx, HO⟩
  -- the chunks combined
  iapply (recv_all m ρ K c chunks)
  isplitr; · iexact HR
  isplitl [Hc1 Hc3 Ha1 Ha3 Hout]
  · iapply (Entails.of_eq (recvPre_all c))
    isplitl [Hc1]; · iexact Hc1
    isplitl [Hc3]; · iexact Hc3
    isplitl [Ha1]; · iexact Ha1
    isplitl [Ha3]; · iexact Ha3
    iapply (q_split c mO g1)
    iapply (Entails.of_eq (owns_whole_pts c cc0_stg1_0 g1).symm)
    iexists g1; isplitr; · (ipureintro; rfl)
    iexact Hout
  isplitl [Hx]; · iexact Hx
  isplitl [HO]; · iexists _; iexact HO
  iintro ⟨HRp, Hx, HO⟩
  -- the chunks retired
  iapply (fin_all m ρ K c chunks)
  isplitr; · iexact HR
  isplitl [HT Ha0 Ha2]
  · iapply (Entails.of_eq (finPre_all c))
    isplitl [HT]; · iexact HT
    isplitl [Ha0]; · iexact Ha0
    iexact Ha2
  isplitl [HO]; · iexact HO
  iintro ⟨HFp, ⟨%W', HO⟩⟩
  ihave HRp := (Entails.of_eq (recvPost_all m ρ c)) $$ HRp
  ihave HFp := (Entails.of_eq (finPost_all m ρ c)) $$ HFp
  icases HRp with ⟨HOut, HRQ, HRS, Hz1, Hz3⟩
  icases HFp with ⟨HSQ, HSS, Hz0, Hz2⟩
  rw [wp_ret]; imodintro
  unfold bodyPost Φ₁ pieces Dat.owesAt Pipeline.owesWithin
  rw [show (dats m ρ 0 c).owed t0_0.succ = 0 from rfl, kinds]
  isplitl [HRQ HRS HSQ HSS Hz0 Hz1 Hz2 Hz3 HzB]
  · isplitl [HRQ HRS HSQ HSS]
    · isplitl [HSQ]; · iapply (forget_q c mSQ _); iexact HSQ
      isplitl [HSS]; · iapply (forget_s c mSS _); iexact HSS
      isplitl [HRQ]; · iapply (forget_q c mRQ _); iexact HRQ
      iapply (forget_s c mRS _); iexact HRS
    isplitr [HzB]; swap; · iexact HzB
    isplitl [Hz0]; · iexact Hz0
    isplitl [Hz1]; · iexact Hz1
    isplitl [Hz2]; · iexact Hz2
    iexact Hz3
  isplitl [HO]
  · iexists W'
    isplitr; · ipureintro; exact fun _ _ => Or.inl trivial
    iexact HO
  isplitl [Hx]
  · iexists _; isplitr; · (ipureintro; rfl)
    iexact Hx
  ihave HOut := (q_glue c mO (och m ρ c)) $$ HOut
  iapply (Entails.of_eq (owns_whole_pts c cc0_stg1_0 (outAt m ρ c)))
  iexact HOut

set_option maxRecDepth 40000 in
/-- The pipeline's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_pts]
  have hb : (defs₀ (F := F)) Proc.tc 0 (t0_0, cfg0.slots t0_0) = bodyAt0 (F := F) t0_0 := rfl
  rw [hb]
  have h0 : (dats m ρ 0 c).Φ t0_0.castSucc = Φ₀ m ρ c := rfl
  have h1 : (dats m ρ 0 c).Φ t0_0.succ = Φ₁ (F := F) c := rfl
  have h2 : (dats m ρ 0 c).after 0 t0_0 = xstg m ρ c := rfl
  have h3 : (dats m ρ 0 c).after 1 t0_0 = outAt m ρ c := rfl
  rw [h0, h1, h2, h3]
  have hs := sound_body m ρ c
  unfold bodyPre bodyPost at hs
  exact hs

end Cert.KernelIdeal.Own
-- ==== Proof.IdealLaunch.lean ====
/- The launch of the kernel on the mesh: the exchange's cells and duties minted and dealt out, and the run. -/
module

public import proofs.«01_k».proof.Proof.IdealBody
public import Idealize.ShloMosaic.Lib.Pipeline.CollectiveSegs

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their duties -/

/-- The kernel's own scoped semaphores are distinct, and no window's. -/
theorem ownSemFacts : Pipeline.OwnSemFacts cfg0.spec osem where
  isScoped jk := by revert jk; decide
  inj a b h := by rw [← which_xsem a, SemLoc.dma.inj h, which_xsem]
  disj jk w s h := by
    have h1 := congrArg Fin.val (SemLoc.dma.inj h)
    have h2 := two_le_xsem jk
    have h3 : ∀ (w : Fin cfg0.W) (s : Fin (cfg0.spec w).nbuf), ((cfg0.spec w).sem s).val < 2 := by decide
    have h4 := h3 w s
    omega

/-- Every window's share is full. -/
theorem share_eq (c : Dev nD) (w : Fin cfg0.W) : (dats m ρ 0 c).share w = fullShare := by unfold Dat.share; split <;> rfl

theorem csem_injective : Function.Injective csem := by
  rintro (_ | a) (_ | b) h
  · rfl
  · cases h
  · cases h
  · rw [← which_xsem a, SemLoc.dma.inj h, which_xsem]
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- All the cells of the exchange, -/
def xCells : Finset (GSem nD τ sig) := Finset.univ.map ⟨kcell, kcell_injective⟩
/-- and the one duty of each. -/
def xToks : Finset (GSem nD τ sig × ℕ × Unit) :=
  Finset.univ.map ⟨fun ck : Dev nD × Option Jk => (kcell ck, 0, ()), fun a b h => kcell_injective (congrArg Prod.fst h)⟩

/-- The launch element: the pipeline's, and the rounds'. -/
def u₀ : UU := (initOf (Pipeline.cells cfgs cellOf_inj) (Pipeline.launchToks cfgs cellOf_inj), initOf xCells xToks)

/-- Everything over a device's cells is the barrier's and the transfers'. -/
theorem cells_split (Φ : Option Jk → sProp 𝕄) : bigSep Finset.univ Φ = iprop(Φ none ∗ bigSep Finset.univ fun jk : Jk => Φ (some jk)) := by
  rw [show (Finset.univ : Finset (Option Jk)) = insert none (Finset.univ.map Function.Embedding.some) from by ext x; cases x <;> simp,
    bigSep_insert (by simp), bigSep_map]
  rfl

/-- What the launch element deals device `c`. -/
def G (c : Dev nD) : sProp 𝕄 :=
  iprop((bigSep Finset.univ fun k : Option Jk => roundState ER (xRd m ρ) (kcell (c, k)) 0)
    ∗ (bigSep Finset.univ fun k : Option Jk => iprop(atPos ER (kcell (c, k)) 0 ∅ 0 ∗ reached ER (kcell (c, k)) 0))
    ∗ (bigSep Finset.univ fun k : Option Jk => dutyTok ER (kcell (c, k)) 0 ()))
/-- What the global step makes of it. -/
def G' (c : Dev nD) : sProp 𝕄 := iprop(∃ K, ghost m ρ K c)

/-- The rounds' element is dealt to the devices. -/
theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Option Jk => Φ (kcell (c, k)) := by
    unfold xCells; rw [bigSep_map, bigSep_univ_prod]; rfl
  have hT : bigSep xToks (fun x => (dutyTok ER x.1 x.2.1 x.2.2 : sProp 𝕄))
      = bigSep Finset.univ fun c : Dev nD => bigSep Finset.univ fun k : Option Jk => dutyTok ER (kcell (c, k)) 0 () := by
    unfold xToks; rw [bigSep_map, bigSep_univ_prod]; rfl
  iintro HX
  imod (Rounds.fund ER (xRd m ρ) xCells xToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's own semaphores and the barrier's are its cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Jk => semVal (kcell (c, k)) 0 : sProp 𝕄) := by
  rw [unscopedSems0_eq, cells_split]
  unfold Pipeline.ownSems0
  iintro ⟨HS, HB⟩
  isplitl [HB]; · iexact HB
  iexact HS

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0))
          ∗ (bigSep Finset.univ fun k : Option Jk => dutyTok ER (kcell (c, k)) 0 ())) := by
  unfold G
  iintro ⟨Hos, Hus, Hst, Hat, Htok⟩
  ihave Hv := (sems0_eq (F := F) c) $$ [Hos Hus]
  · isplitl [Hos] <;> iassumption
  imod (show iprop((bigSep Finset.univ fun k : Option Jk => semVal (kcell (c, k)) 0) ∗ bigSep Finset.univ fun k : Option Jk => roundState ER (xRd m ρ) (kcell (c, k)) 0)
      ⊢ (|={Set.univ}=> bigSep Finset.univ fun k => iprop(∃ κ : ℕ, cellInv ER (xRd m ρ) κ (kcell (c, k))) : sProp 𝕄) from by
        rw [← bigSep_sep']
        exact (bigSep_mono fun k _ => (Rounds.body_intro ER (xRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties device `c` pays. -/
def payToks (c : Dev nD) : sProp 𝕄 :=
  iprop(dutyTok ER (barCell (peerOf c)) 0 () ∗ (bigSep Finset.univ fun jk : Jk => dutyTok ER (xcell (tgt c jk.1) jk) 0 ()))
/-- What stays with device `c`: its positions, and the duties it pays. -/
def linear (c : Dev nD) : sProp 𝕄 :=
  iprop((atPos ER (barCell c) 0 ∅ 0 ∗ (bigSep Finset.univ fun jk : Jk => atPos ER (xcell c jk) 0 ∅ 0)) ∗ payToks c)

theorem ghost_intro (K : Dev nD × Option Jk → ℕ) (c : Dev nD) : iprop(records m ρ K ∗ linear c) ⊢ G' m ρ c := by
  unfold linear payToks G' ghost
  iintro ⟨HR, Hat, HtB, Ht⟩
  iexists K
  isplitl [HR]; · iexact HR
  isplitl [Hat]; · iexact Hat
  isplitl [HtB]; · iexact HtB
  iexact Ht

/-- Over all the devices, what is at the payer's target is what is at each device. -/
theorem tgt_all (a : Fin 4) (Φ : Dev nD → sProp 𝕄) : (bigSep Finset.univ fun c : Dev nD => Φ (tgt c a)) = bigSep Finset.univ Φ := by
  by_cases h : a.val % 2 = 1
  · rw [bigSep_univ_equiv pair Φ]
    exact bigSep_congr fun c _ => by unfold tgt; rw [if_pos h]; rfl
  · exact bigSep_congr fun c _ => by unfold tgt; rw [if_neg h]

/-- The duties dealt to those who pay them. -/
theorem toks_around : (bigSep Finset.univ fun c : Dev nD => bigSep Finset.univ fun k : Option Jk => (dutyTok ER (kcell (c, k)) 0 () : sProp 𝕄))
    ⊢ bigSep Finset.univ fun c : Dev nD => payToks c := by
  have h1 : (bigSep Finset.univ fun c : Dev nD => bigSep Finset.univ fun k : Option Jk => (dutyTok ER (kcell (c, k)) 0 () : sProp 𝕄))
      = bigSep Finset.univ fun c : Dev nD => iprop(dutyTok ER (barCell c) 0 () ∗ bigSep Finset.univ fun jk : Jk => dutyTok ER (xcell c jk) 0 ()) :=
    bigSep_congr fun c _ => cells_split _
  rw [h1]
  unfold payToks
  rw [bigSep_sep', bigSep_sep', bigSep_univ_equiv pair (fun c : Dev nD => (dutyTok ER (barCell c) 0 () : sProp 𝕄)),
    bigSep_univ_comm (fun (c : Dev nD) (jk : Jk) => (dutyTok ER (xcell c jk) 0 () : sProp 𝕄)),
    bigSep_univ_comm (fun (c : Dev nD) (jk : Jk) => (dutyTok ER (xcell (tgt c jk.1) jk) 0 () : sProp 𝕄)),
    bigSep_congr (s := Finset.univ) fun (jk : Jk) _ => tgt_all jk.1 fun c => (dutyTok ER (xcell c jk) 0 () : sProp 𝕄)]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0))
          ∗ (bigSep Finset.univ fun k : Option Jk => dutyTok ER (kcell (c, k)) 0 ())) : sProp 𝕄)
      ⊢ bigSep Finset.univ (G' m ρ) := by
  rw [bigSep_sep', bigSep_sep', ← bigSep_univ_prod (fun ck : Dev nD × Option Jk => iprop(∃ κ : ℕ, cellInv ER (xRd m ρ) κ (kcell ck))),
    bigSep_congr (s := Finset.univ) (fun (c : Dev nD) _ => bigSep_sep' Finset.univ (fun k : Option Jk => (atPos ER (kcell (c, k)) 0 ∅ 0 : sProp 𝕄)) (fun k => reached ER (kcell (c, k)) 0)),
    bigSep_sep', ← bigSep_univ_prod (fun ck : Dev nD × Option Jk => (reached ER (kcell ck) 0 : sProp 𝕄))]
  iintro ⟨HI, ⟨Hat, #HR⟩, Htok⟩
  ihave HK := (BI.bigSep_exists_pi Finset.univ (fun (ck : Dev nD × Option Jk) (κ : ℕ) => (cellInv ER (xRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Option Jk => (atPos ER (kcell (c, k)) 0 ∅ 0 : sProp 𝕄)) payToks).symm).trans
      (bigSep_mono fun c _ => show _ ⊢ linear c from Entails.of_eq (by unfold linear; rw [cells_split])))
    isplitl [Hat]; · iexact Hat
    iexact Htk

/-- The global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_ne_x (a b : Dev nD) (jk : Jk) : ¬ barCell a = xcell b jk := fun h => by cases congrArg Prod.snd h

/-- What is owed the partner's cell, read at a cell. -/
theorem owed_at (d c : Dev nD) (jk jk' : Jk) (n : ℕ) :
    (tallyAt (xcell (peerOf d) jk') () n : CellTallies nD τ sig Unit) (xcell c jk) () = if d = peerOf c ∧ jk = jk' then n else 0 := by
  rw [tallyAt_apply]
  refine if_congr ⟨fun h => ?_, fun h => ?_⟩ rfl rfl
  · obtain ⟨h1, h2⟩ := xcell_inj h.1
    exact ⟨by rw [h1, peer_peer], h2⟩
  · rw [h.1, h.2, peer_peer]; exact ⟨rfl, rfl⟩

/-- What the transfers of a list owe an arriving cell of rows, -/
theorem oweL_rows (d c : Dev nD) (k : Fin 8) : ∀ ks : List (Fin 8), oweL d ks (xcell c (1, k)) () = if d = peerOf c then ks.count k * Nd else 0
  | [] => by simp [oweL]
  | k' :: ks => by
    unfold oweL
    rw [Pi.add_apply, Finsupp.add_apply, Pi.add_apply, Finsupp.add_apply, owed_at, owed_at, oweL_rows d c k ks, List.count_cons]
    by_cases h : d = peerOf c
    · by_cases h' : k = k'
      · subst h'; simp [h, Nat.add_mul]
      · simp [h, h']; exact .inl fun h'' => h' h''.symm
    · simp [h]
/-- and one of scales. -/
theorem oweL_scales (d c : Dev nD) (k : Fin 8) : ∀ ks : List (Fin 8), oweL d ks (xcell c (3, k)) () = if d = peerOf c then ks.count k * Ns else 0
  | [] => by simp [oweL]
  | k' :: ks => by
    unfold oweL
    rw [Pi.add_apply, Finsupp.add_apply, Pi.add_apply, Finsupp.add_apply, owed_at, owed_at, oweL_scales d c k ks, List.count_cons]
    by_cases h : d = peerOf c
    · by_cases h' : k = k'
      · subst h'; simp [h, Nat.add_mul]
      · simp [h, h']; exact .inl fun h'' => h' h''.symm
    · simp [h]
/-- To a barrier cell they owe nothing. -/
theorem oweL_bar (d c : Dev nD) : ∀ ks : List (Fin 8), oweL d ks (barCell c) () = 0
  | [] => rfl
  | k' :: ks => by
    unfold oweL
    rw [Pi.add_apply, Finsupp.add_apply, Pi.add_apply, Finsupp.add_apply, tallyAt_apply, tallyAt_apply, oweL_bar d c ks,
      if_neg fun h => bar_ne_x _ _ _ h.1, if_neg fun h => bar_ne_x _ _ _ h.1]

theorem owed_rows (d c : Dev nD) (k : Fin 8) : O₀ d (xcell c (1, k)) () = if d = peerOf c then Nd else 0 := by
  unfold O₀
  rw [Pi.add_apply, Finsupp.add_apply, tallyAt_apply, if_neg fun h => bar_ne_x _ _ _ h.1.symm, oweL_rows,
    show chunks.count k = 1 from by revert k; decide, Nat.one_mul, Nat.add_zero]
theorem owed_scales (d c : Dev nD) (k : Fin 8) : O₀ d (xcell c (3, k)) () = if d = peerOf c then Ns else 0 := by
  unfold O₀
  rw [Pi.add_apply, Finsupp.add_apply, tallyAt_apply, if_neg fun h => bar_ne_x _ _ _ h.1.symm, oweL_scales,
    show chunks.count k = 1 from by revert k; decide, Nat.one_mul, Nat.add_zero]
theorem owed_bar (d c : Dev nD) : O₀ d (barCell c) () = if d = peerOf c then 1 else 0 := by
  unfold O₀
  rw [Pi.add_apply, Finsupp.add_apply, tallyAt_apply, oweL_bar, Nat.zero_add]
  refine if_congr ⟨fun h => ?_, fun h => ?_⟩ rfl rfl
  · have h1 : c = peerOf d := congrArg (fun g : GSem nD τ sig => g.1.1) h.1
    rw [h1, peer_peer]
  · exact ⟨by rw [h, peer_peer], rfl⟩

/-- A cell that the partner alone owes `n` has launch credit `n`. -/
theorem launch_cell (c : Dev nD) (g : GSem nD τ sig) (n : ℕ) (h : ∀ d, O₀ d g () = if d = peerOf c then n else 0) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ (peerOf c) fun _ => n, if_pos (Finset.mem_univ _)]

theorem creds (c : Dev nD) : (Pipeline.launchCred O₀ c : sProp 𝕄) ⊢ waitToks (F := F) c := by
  unfold Pipeline.launchCred waitToks
  have hsub : (Finset.univ.map ⟨csem, csem_injective⟩ : Finset (SemLoc sig)) ⊆ Finset.univ := Finset.subset_univ _
  refine BIBase.Entails.trans (show (_ : sProp 𝕄) ⊢ bigSep (Finset.univ.map ⟨csem, csem_injective⟩) _ from bigSep_subset hsub) ?_
  rw [bigSep_map, cells_split, kinds]
  rw [show (fun k : Fin 8 => (cred (tallyAt (xcell c (1, k)) () Nd) : sProp 𝕄))
      = fun k => cred (tallyOn (xcell c (1, k)) (launchCredit (Pipeline.owing O₀) 0 (xcell c (1, k)))) from
        funext fun k => by rw [launch_cell c _ Nd fun d => owed_rows d c k],
    show (fun k : Fin 8 => (cred (tallyAt (xcell c (3, k)) () Ns) : sProp 𝕄))
      = fun k => cred (tallyOn (xcell c (3, k)) (launchCredit (Pipeline.owing O₀) 0 (xcell c (3, k)))) from
        funext fun k => by rw [launch_cell c _ Ns fun d => owed_scales d c k],
    ← launch_cell c (barCell c) 1 fun d => owed_bar d c]
  iintro ⟨HB, -, H1, -, H3⟩
  isplitl [HB]; · iexact HB
  isplitl [H1]; · iexact H1
  iexact H3

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- A buffer held whole is held as a whole view. -/
theorem whole_in (c : Dev nD) (b : Ref sig .tc) (f : Buf (Elt F) ((c : Thread nD τ).loc b)) :
    ((((c : Thread nD τ).loc b) ↦{fullShare} f) : sProp 𝕄) ⊢ owns (c : Thread nD τ) (Memref.whole b) fullShare f := by
  rw [owns_whole_pts]
  iintro H
  iexists f; isplitr; · (ipureintro; rfl)
  iexact H
/-- and back. -/
theorem whole_out (c : Dev nD) (b : Ref sig .tc) (X : b.ty.Contents (Elt F)) :
    (owns (Ix := Unit) (Name := ℕ) (U := UU) (Lvl := ℕ) (c : Thread nD τ) (Memref.whole b) fullShare X : sProp 𝕄)
      ⊢ iprop(∃ f : Buf (Elt F) ((c : Thread nD τ).loc b), ((c : Thread nD τ).loc b) ↦{fullShare} f) := by
  rw [owns_whole_pts]
  iintro ⟨%f, -, H⟩
  iexists f
  iexact H

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ pieces
  iintro ⟨Hs, -, ⟨%f0, H0⟩, ⟨%f1, H1⟩, ⟨%f2, H2⟩, ⟨%f3, H3⟩⟩
  isplitl [Hs]; · iexact Hs
  isplitl [H0]; · iapply (q_split c mSQ f0); iapply (whole_in c cc0_scratch0 f0); iexact H0
  isplitl [H2]; · iapply (s_split c mSS f2); iapply (whole_in c cc0_scratch2 f2); iexact H2
  isplitl [H1]; · iapply (q_split c mRQ f1); iapply (whole_in c cc0_scratch1 f1); iexact H1
  iapply (s_split c mRS f3); iapply (whole_in c cc0_scratch3 f3); iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ pieces Pipeline.ownSems0
  iintro ⟨⟨HSQ, HSS, HRQ, HRS⟩, Hz, HzB⟩
  isplitl [HzB]; · iexact HzB
  isplitl [Hz]; · iexact Hz
  ihave HSQ := (q_join c mSQ) $$ HSQ
  ihave HSS := (s_join c mSS) $$ HSS
  ihave HRQ := (q_join c mRQ) $$ HRQ
  ihave HRS := (s_join c mRS) $$ HRS
  icases HSQ with ⟨%X0, H0⟩
  icases HSS with ⟨%X2, H2⟩
  icases HRQ with ⟨%X1, H1⟩
  icases HRS with ⟨%X3, H3⟩
  isplitl [H0]; · iapply (whole_out c cc0_scratch0 X0); iexact H0
  isplitl [H1]; · iapply (whole_out c cc0_scratch1 X1); iexact H1
  isplitl [H2]; · iapply (whole_out c cc0_scratch2 X2); iexact H2
  iapply (whole_out c cc0_scratch3 X3); iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m ρ 0 c).arrAt w cfg0.N

/-- Every window's array on every device holds that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution on the mesh terminates; the final states have each device's arrays at the contents above
    and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array holds at the end what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Own
-- ==== Proof.Values.lean ====
/- The quantiser over the extended reals: the scale of a chunk of 256 rows, the number an element is rounded to, and the
   element put back; with the facts of it that the kernel and the reference share. -/
module

public import Idealize.ShloMosaic.PureOps
public import Idealize.ShloMosaic.PureOps.Ideal
public import Idealize.ShloMosaic.PureOps.Ideal.Laws
public import Idealize.ShloMosaic.PureOps.Reduce
public import Idealize.ShloMosaic.Lib.ValueLayout
public import Idealize.ShloMosaic.Lib.ValueIdx

@[expose] public section

noncomputable section

namespace Cert.Quant

open Idealize.ShloMosaic Idealize.ShloMosaic.ValueIdx

/-- The places of a chunk, -/
abbrev Chunk : Type := (⟨2, ![256, 512]⟩ : Shape).Idx
/-- and of the whole array. -/
abbrev Whole : Type := (⟨2, ![4096, 512]⟩ : Shape).Idx

/-- A binary32 word's value. -/
abbrev lit (b : BitVec 32) : EReal := Ideal.ofBits .f32 b

/-- The largest magnitude in a chunk, -/
def peak (x : Chunk → EReal) : EReal :=
  Finset.univ.fold (FloatOps.maximumf (F := Ideal) (φ := .f32)) (lit 0xFF800000#32) fun i => max (x i) (-(x i))
/-- its scale, -/
def scale (x : Chunk → EReal) : EReal := max (peak x) (lit 0x0DA24260#32)
/-- an element under a scale, rounded and clipped, -/
def level (v s : EReal) : EReal :=
  min (lit 0x42FE0000#32) (max (lit 0xC2FE0000#32) (Ideal.liftRound Ideal.roundHalfEven (v * Ideal.div (lit 0x42FE0000#32) s)))
/-- and put back, the rounded number read through an integer of `w` bits. -/
def back (w : Nat) (v s : EReal) : EReal :=
  (((Ideal.fptosi w (level v s)).toInt : ℝ) : EReal) * (s * lit 0x3C010204#32)

/-- 127 and -/
theorem lit_hi : lit 0x42FE0000#32 = ((127 : ℝ) : EReal) := by
  have h0 : (BitVec.extractLsb' (8 + 23) 1 0x42FE0000#32 == 1#1) = false := by decide
  have h1 : (BitVec.extractLsb' 23 8 0x42FE0000#32).toNat = 133 := by decide
  have h2 : (BitVec.extractLsb' 0 23 0x42FE0000#32).toNat = 8257536 := by decide
  show Ideal.ieee 8 23 0x42FE0000#32 = _
  unfold Ideal.ieee
  simp only [h0, h1, h2]
  norm_num
/-- -127, as words. -/
theorem lit_lo : lit 0xC2FE0000#32 = ((-127 : ℝ) : EReal) := by
  have h0 : (BitVec.extractLsb' (8 + 23) 1 0xC2FE0000#32 == 1#1) = true := by decide
  have h1 : (BitVec.extractLsb' 23 8 0xC2FE0000#32).toNat = 133 := by decide
  have h2 : (BitVec.extractLsb' 0 23 0xC2FE0000#32).toNat = 8257536 := by decide
  show Ideal.ieee 8 23 0xC2FE0000#32 = _
  unfold Ideal.ieee
  simp only [h0, h1, h2]
  norm_num

/-- A number rounded toward zero that lies within 127 of zero does. -/
theorem trunc_bound (r : ℝ) (h0 : -127 ≤ r) (h1 : r ≤ 127) :
    -127 ≤ (if 0 ≤ r then ⌊r⌋ else ⌈r⌉) ∧ (if 0 ≤ r then ⌊r⌋ else ⌈r⌉) ≤ 127 := by
  split
  · refine ⟨?_, ?_⟩
    · have : (0 : ℤ) ≤ ⌊r⌋ := Int.floor_nonneg.2 ‹_›
      omega
    · exact Int.floor_le_iff.2 (by push_cast; linarith)
  · refine ⟨?_, ?_⟩
    · exact Int.le_ceil_iff.2 (by push_cast; linarith)
    · exact Int.ceil_le.2 (by push_cast; linarith)

/-- Within 127 of zero, 8 bits and 32 bits hold the same integer. -/
theorem fptosi_narrow (v : EReal) (h0 : ((-127 : ℝ) : EReal) ≤ v) (h1 : v ≤ ((127 : ℝ) : EReal)) :
    (Ideal.fptosi 8 v).toInt = (Ideal.fptosi 32 v).toInt := by
  induction v using EReal.rec with
  | bot => exact absurd h0 (by simp)
  | top => exact absurd h1 (by simp)
  | coe r =>
    obtain ⟨a, b⟩ := trunc_bound r (EReal.coe_le_coe_iff.1 h0) (EReal.coe_le_coe_iff.1 h1)
    show (BitVec.ofInt 8 (max _ (min _ (if 0 ≤ r then ⌊r⌋ else ⌈r⌉)))).toInt
      = (BitVec.ofInt 32 (max _ (min _ (if 0 ≤ r then ⌊r⌋ else ⌈r⌉)))).toInt
    generalize (if 0 ≤ r then ⌊r⌋ else ⌈r⌉) = z at a b
    rw [show max (-((2 ^ (8 - 1) : ℕ) : ℤ)) (min (((2 ^ (8 - 1) : ℕ) : ℤ) - 1) z) = z by norm_num; omega,
      show max (-((2 ^ (32 - 1) : ℕ) : ℤ)) (min (((2 ^ (32 - 1) : ℕ) : ℤ) - 1) z) = z by norm_num; omega,
      BitVec.toInt_ofInt, BitVec.toInt_ofInt, Int.bmod_eq_of_le (by norm_num; omega) (by norm_num; omega),
      Int.bmod_eq_of_le (by norm_num; omega) (by norm_num; omega)]

/-- So the element put back is the same through either. -/
theorem back_narrow (v s : EReal) : back 8 v s = back 32 v s := by
  unfold back
  rw [fptosi_narrow]
  · unfold level; rw [lit_hi, lit_lo]
    exact le_min (EReal.coe_le_coe_iff.2 (by norm_num)) (le_max_left _ _)
  · unfold level; rw [lit_hi]; exact min_le_left _ _

/-- The place in the whole array of a place in chunk `k` of half `z`. -/
def place (z : Fin 2) (k : Fin 8) (r : Chunk) : Whole :=
  ix2 ⟨2048 * z.val + (256 * k.val + (r 0).val), by have := idx2_lt0 r; omega⟩ ⟨(r 1).val, idx2_lt1 r⟩

/-- Chunk `k` of half `z`. -/
def chunk (A : Whole → EReal) (z : Fin 2) (k : Fin 8) : Chunk → EReal := fun r => A (place z k r)

/-- The other half. -/
def other (z : Fin 2) : Fin 2 := z.rev

/-- The result at a place: the element, and the one facing it in the other half quantised and put back. -/
def result (A : Whole → EReal) (z : Fin 2) (k : Fin 8) (r : Chunk) : EReal :=
  A (place z k r) + back 32 (A (place (other z) k r)) (scale (chunk A (other z) k))

end Cert.Quant

end
-- ==== Proof.IdealValue.lean ====
/- What the kernel leaves over the extended reals, read at a place of a device's result: the reference's result there. -/
module

public import proofs.«01_k».proof.Proof.IdealLaunch
public import proofs.«01_k».proof.Proof.Values
public import Idealize.ShloMosaic.Lib.Layout
public import Idealize.ShloMosaic.Lib.Pipeline.Value
public import Idealize.ShloMosaic.Lib.Pipeline.ValueKit

@[expose] public section

noncomputable section

namespace Cert.KernelIdeal.Own

open Cert.KernelIdeal Cert.KernelIdeal.Gen Cert.Quant
open Idealize.ShloMosaic Idealize.ShloMosaic.ValueIdx
open Idealize.ShloMosaic.TcCoe
open Idealize.SL.Sem

/-! ## The payloads -/

section At
variable {s : Shape} (x y : FVec Ideal s .f32) (i : s.Idx)
theorem addf_at : addf x y i = (x i + y i : EReal) := rfl
theorem mulf_at : mulf x y i = (x i * y i : EReal) := rfl
theorem maximumf_at : maximumf x y i = max (x i : EReal) (y i) := rfl
theorem minimumf_at : minimumf x y i = min (x i : EReal) (y i) := rfl
theorem roundeven_at : roundeven x i = Ideal.liftRound Ideal.roundHalfEven (x i) := rfl
theorem fptosi_at : fptosi 8 x i = Ideal.fptosi 8 (x i) := rfl
theorem sitofp_at (q : IVec s 8) : sitofp (F := Ideal) .f32 q i = (((q i).toInt : ℝ) : EReal) := rfl
theorem truncf_at : truncf .bf16 x bitsLt_bf16_f32 i = x i := rfl
end At

variable (x : FVec Ideal S256x512 .f32)

/-- The largest magnitude over a chunk with a unit axis before it. -/
theorem peak_unit (hφ : FKind.Formats .f32) (hacc : (0xFF800000#32 : BitVec FTy.f32.bits) = FKind.maximumf.neutral .f32 hφ) (j : S1.Idx) :
    multiReduction .maximumf [1, 2] S1 (shapeCast S1x256x512 (absf x) shapeCasts_S256x512_S1x256x512) 0xFF800000#32
      reduces_S1x256x512_S1 hφ hacc j = peak x := by
  rw [multiReduction_maximumf_eq_fold]
  have hu : (Finset.univ.filter fun i : S1x256x512.Idx => Shape.Reduces.drop reduces_S1x256x512_S1 i = j)
      = Finset.univ.map (Shape.reshapeEquiv shapeCasts_S256x512_S1x256x512).symm.toEmbedding := by
    rw [Finset.map_univ_equiv, Finset.filter_true_of_mem]
    intro i _
    exact funext fun a => by match a with | ⟨0, _⟩ => exact Subsingleton.elim (α := Fin 1) _ _
  rw [hu, Finset.fold_map]
  unfold peak
  refine congrArg (fun f => Finset.fold _ _ f _) (funext fun r => ?_)
  show absf x (Shape.reshapeEquiv shapeCasts_S256x512_S1x256x512 ((Shape.reshapeEquiv shapeCasts_S256x512_S1x256x512).symm r)) = _
  rw [Equiv.apply_symm_apply]
  rfl

/-- The one element of a vector of one, taken out. -/
theorem extract_one (v : FVec Ideal S1 .f32) (p : EReal) (hv : ∀ j, v j = p) :
    extractAt ![0, 0, 0] (shapeCast S1x1x1 v shapeCasts_S1_S1x1x1) inpos_S1x1x1_p0_0_0 = p := hv _

theorem smax_at (a b : EReal) : Scalar.maximumf (F := Ideal) (φ := .f32) a b = max a b := rfl
theorem sbits_at (b : BitVec 32) : Scalar.ofBits (F := Ideal) .f32 b = lit b := rfl

/-- The scale. -/
theorem scale_eq : k0_pay7 (F := Ideal) x = scale x := by
  have e : k0_pay6 (F := Ideal) x = x := shapeCast_self _ _
  unfold k0_pay7 scale
  rw [e]
  dsimp only
  rw [smax_at, sbits_at]
  exact congrArg (fun p : EReal => max p (lit 0x0DA24260#32)) (extract_one _ (peak x) (peak_unit x (.inl rfl) rfl))

/-- A number broadcast to a row. -/
theorem row_const (p : EReal) (i : S1x128.Idx) : shapeCast S1x128 (broadcast S128 p) shapeCasts_S128_S1x128 i = p := rfl

/-- The row of scales. -/
theorem scaleOf_eq (i : S1x128.Idx) : scaleOf (F := Ideal) x i = scale x := by
  rw [← scale_eq]
  exact row_const _ i

/-- An element quantised. -/
theorem quantOf_eq (r : Chunk) : quantOf (F := Ideal) x r = Ideal.fptosi 8 (level (x r) (scale x)) := by
  have e : k0_pay6 (F := Ideal) x = x := shapeCast_self _ _
  unfold quantOf k0_pay9
  rw [e, scale_eq, shapeCast_self, fptosi_at, minimumf_at, maximumf_at, roundeven_at, mulf_at]
  rfl

/-- An element combined with what was received. -/
theorem combine_eq (q : IVec S256x512 8) (s : FVec Ideal S1x1 .f32) (v : EReal) (hs : ∀ i, s i = v) (r : Chunk) :
    combine (F := Ideal) q s x r = (x r + (((q r).toInt : ℝ) : EReal) * (v * lit 0x3C010204#32) : EReal) := by
  unfold combine k0_pay49
  rw [truncf_at, addf_at, shapeCast_self, mulf_at, sitofp_at]
  have e : extractAt ![0, 0] s inpos_S1x1_p0_0 = v := hs _
  rw [e]
  rfl

/-! ## The devices' halves -/

/-- The half a device holds. -/
def half (c : Dev nD) : Fin 2 := ⟨c.val % 2, Nat.mod_lt _ (by decide)⟩

/-- The partner holds the other half. -/
theorem half_peer (c : Dev nD) : half (peerOf c) = other (half c) := by
  revert c
  have h : ∀ c : Dev nD, half ⟨(4 * (c.val / 4) + 2 * (c.val / 2 % 2) + 1) - c.val % 2, by have := c.isLt; revert c; decide⟩ = other (half c) := by decide
  intro c
  refine Eq.trans ?_ (h c)
  apply Fin.ext
  show k0_dev1 c % 2 = _
  rw [k0_dev1_eq]
  rfl

/-- Where a device's half lies in the whole array. -/
theorem block_place (h : Layout.TilesN ⟨2, ![2048, 512]⟩ ⟨2, ![4096, 512]⟩ (fun b => Layout.cutSize [2, 2, 2] ((![[2], []] : Fin 2 → List Nat) b)))
    (c : Dev nD) (i : S2048x512.Idx) :
    h.idx (Layout.meshBlock [2, 2, 2] ![[2], []] c) i = place (half c) (chunkIx i) (rowIx i) := by
  have hc : ∀ c : Dev nD, (Layout.meshBlock (r := 2) [2, 2, 2] ![[2], []] c (by decide) 0).val = c.val % 2
      ∧ (Layout.meshBlock (r := 2) [2, 2, 2] ![[2], []] c (by decide) 1).val = 0 := by decide
  refine Shape.idx_ext₂ ?_ ?_
  · rw [Layout.TilesN.idx_val]
    show (Layout.meshBlock (r := 2) [2, 2, 2] ![[2], []] c (by decide) 0).val * 2048 + (i 0).val
      = 2048 * (c.val % 2) + (256 * ((i 0).val / 256) + (i 0).val % 256)
    rw [(hc c).1]
    omega
  · rw [Layout.TilesN.idx_val]
    show (Layout.meshBlock (r := 2) [2, 2, 2] ![[2], []] c (by decide) 1).val * 512 + (i 1).val = (i 1).val
    rw [(hc c).2]
    omega

variable (m : (ℓ : Loc nD τ sig) → Buf (Elt Ideal) ℓ) (ρ : Dev nD → PrngReg)

/-- The staged half is the argument's. -/
theorem xstg_eq (c : Dev nD) : xstg m ρ c = m ((c : Thread nD τ).loc main_arg0) := by
  funext i
  refine congrArg (m ((c : Thread nD τ).loc main_arg0)) (?_ : (win0_0.blk (0 : Fin 1)).view.emb i = i)
  funext a
  have h0 : ∀ a, win0_0.index (0 : Fin 1) a = 0 := by decide +kernel
  have e := Pipeline.Window.rect_emb_val_of_index_zero win0_0 (0 : Fin 1) a (h0 a) i
  exact Fin.ext e

/-- The result array holds at the end what the body left staged. -/
theorem finalA_out (c : Dev nD) : finalA m ρ c (1 : Fin 2) = outAt m ρ c := by
  refine (dats m ρ 0 c).arrAt_eq_of_after_last 1 t0_0 (by decide +kernel) _ fun j => ?_
  rfl

variable (A : Whole → EReal)

/-- A device's chunk is a chunk of the whole argument. -/
theorem xch_eq (c : Dev nD)
    (hA : m ((c : Thread nD τ).loc main_arg0) = Layout.blockN ⟨2, ![2048, 512]⟩ ⟨2, ![4096, 512]⟩ (Layout.meshBlock [2, 2, 2] ![[2], []] c) A)
    (k : Fin 8) : xch m ρ c k = chunk A (half c) k := by
  funext r
  unfold xch
  rw [xstg_eq, hA]
  show A (Layout.TilesN.idx _ _ ((rows k).emb r)) = A (place _ _ _)
  rw [block_place, chunkIx_emb, rowIx_emb]

/-- A device's result is its half of the reference's. -/
theorem outAt_eq
    (hA : ∀ c : Dev nD, m ((c : Thread nD τ).loc main_arg0) = Layout.blockN ⟨2, ![2048, 512]⟩ ⟨2, ![4096, 512]⟩ (Layout.meshBlock [2, 2, 2] ![[2], []] c) A)
    (R : Whole → EReal) (hR : ∀ z k r, R (place z k r) = result A z k r) (c : Dev nD) :
    outAt m ρ c = Layout.blockN ⟨2, ![2048, 512]⟩ ⟨2, ![4096, 512]⟩ (Layout.meshBlock [2, 2, 2] ![[2], []] c) R := by
  funext i
  rw [Layout.blockN_apply, block_place, hR]
  unfold outAt och
  rw [combine_eq (xch m ρ c (chunkIx i)) (qch m ρ (peerOf c) (chunkIx i)) (s1ch m ρ (peerOf c) (chunkIx i)) (scale (xch m ρ (peerOf c) (chunkIx i))) (fun _ => scaleOf_eq (xch m ρ (peerOf c) (chunkIx i)) (fun a => ⟨0, by revert a; decide⟩))]
  unfold qch
  rw [quantOf_eq, xch_eq m ρ A c (hA c), xch_eq m ρ A (peerOf c) (hA _), half_peer]
  unfold result
  rw [← back_narrow]
  rfl

end Cert.KernelIdeal.Own

end
-- ==== Proof.ReferenceValue.lean ====
/- What the reference computes over the extended reals, read at a place of its result. -/
module

public import proofs.«01_k».proof.Proof.Values
public import proofs.«01_k».proof.Proof.Gen.ReferenceIdeal
public import proofs.«01_k».proof.Proof.Gen.ReferenceIdeal.Run
public import Idealize.ShloMosaic.Lib.Pipeline.Value
public import Idealize.ShloMosaic.Lib.Quiescent

@[expose] public section

noncomputable section

namespace Cert.ReferenceIdeal.Own

open Cert.ReferenceIdeal Cert.ReferenceIdeal.Gen Cert.Quant
open Idealize.ShloMosaic Idealize.ShloMosaic.ValueIdx Idealize.SL.Sem

variable (A : FVec Ideal S4096x512 .f32)

/-- The argument by chunks, -/
def blocks : FVec Ideal S2x8x256x512 .f32 := shapeCast _ A shapeCasts_S4096x512_S2x8x256x512
/-- the chunks' scales, -/
def scales : FVec Ideal S2x8x1x1 .f32 :=
  maximumf (broadcastInDim S2x8x1x1 ![0, 1] bcast_S2x8_S2x8x1x1_0_1
      (Host.reduce FloatOps.maximumf (Host.absf (blocks A)) (constant S_ .f32 0xFF800000#32) reducesTo_S2x8x256x512_S2x8_d2_3 h_S_))
    (broadcastInDim S2x8x1x1 ![] bcast_S_S2x8x1x1 (constant S_ .f32 0x0DA24260#32))
/-- the chunks quantised, -/
def levels : IVec S2x8x256x512 32 :=
  fptosi 32 (minimumf (broadcastInDim S2x8x256x512 ![] bcast_S_S2x8x256x512 (id (constant (F := Ideal) S_ .f32 0x42FE0000#32)))
    (maximumf (broadcastInDim S2x8x256x512 ![] bcast_S_S2x8x256x512 (id (constant S_ .f32 0xC2FE0000#32)))
      (Host.roundeven (mulf (blocks A) (broadcastInDim S2x8x256x512 ![0, 1, 2, 3] bcast_S2x8x1x1_S2x8x256x512_0_1_2_3
        (Host.divf (broadcastInDim S2x8x1x1 ![] bcast_S_S2x8x1x1 (constant S_ .f32 0x42FE0000#32)) (scales A)))))))
/-- put back, -/
def backs : FVec Ideal S2x8x256x512 .f32 :=
  mulf (sitofp .f32 (levels A)) (broadcastInDim S2x8x256x512 ![0, 1, 2, 3] bcast_S2x8x1x1_S2x8x256x512_0_1_2_3
    (mulf (scales A) (broadcastInDim S2x8x1x1 ![] bcast_S_S2x8x1x1 (constant S_ .f32 0x3C010204#32))))
/-- and the reference's result. -/
def out : FVec Ideal S4096x512 .bf16 :=
  truncf .bf16 (shapeCast _ (addf (shapeCast _ A shapeCasts_S4096x512_S2x2048x512)
    (Host.reverse [0] (shapeCast _ (backs A) shapeCasts_S2x8x256x512_S2x2048x512))) shapeCasts_S2x2048x512_S4096x512) bitsLt_bf16_f32

/-! The operations, at a place -/

section At
variable {s : Shape} (x y : FVec Ideal s .f32) (i : s.Idx)
theorem addf_at : addf x y i = (x i + y i : EReal) := rfl
theorem mulf_at : mulf x y i = (x i * y i : EReal) := rfl
theorem divf_at : Host.divf x y i = Ideal.div (x i) (y i) := rfl
theorem maximumf_at : maximumf x y i = max (x i : EReal) (y i) := rfl
theorem minimumf_at : minimumf x y i = min (x i : EReal) (y i) := rfl
theorem roundeven_at : Host.roundeven x i = Ideal.liftRound Ideal.roundHalfEven (x i) := rfl
theorem fptosi_at : fptosi 32 x i = Ideal.fptosi 32 (x i) := rfl
theorem sitofp_at (q : IVec s 32) : sitofp (F := Ideal) .f32 q i = (((q i).toInt : ℝ) : EReal) := rfl
theorem truncf_at : truncf .bf16 x bitsLt_bf16_f32 i = x i := rfl
end At

/-- Chunk `k` of half `z`, as a part of the array cut in chunks. -/
def inBlocks (z : Fin 2) (k : Fin 8) : Chunk ↪ S2x8x256x512.Idx where
  toFun r := ix4 z k (r 0) (r 1)
  inj' r r' h := Shape.idx_ext₂ (congrArg Fin.val (congrFun h (2 : Fin 4))) (congrArg Fin.val (congrFun h (3 : Fin 4)))

/-- An element of the argument cut in chunks. -/
theorem blocks_apply (z : Fin 2) (k : Fin 8) (r : Chunk) : blocks A (inBlocks z k r) = A (place z k r) := by
  refine shapeCast_apply A _ _ _ ?_
  rw [Shape.rowMajor_val_two, Shape.rowMajor_val_four]
  show (2048 * z.val + (256 * k.val + (r 0).val)) * 512 + (r 1).val = ((z.val * 8 + k.val) * 256 + (r 0).val) * 512 + (r 1).val
  omega

/-- The elements a chunk's maximum is taken over are the chunk. -/
theorem reduced_chunk (z : Fin 2) (k : Fin 8) :
    (Finset.univ.filter fun i : S2x8x256x512.Idx => Shape.ReducesTo.drop reducesTo_S2x8x256x512_S2x8_d2_3 i = ix2 z k)
      = Finset.univ.map (inBlocks z k) := by
  ext i
  simp only [Finset.mem_filter, Finset.mem_univ, true_and, Finset.mem_map]
  constructor
  · intro h
    refine ⟨ix2 (i 2) (i 3), ?_⟩
    rw [eq_ix4 i]
    have h0 : i 0 = z := Fin.ext (congrArg Fin.val (congrFun h (0 : Fin 2)))
    have h1 : i 1 = k := Fin.ext (congrArg Fin.val (congrFun h (1 : Fin 2)))
    rw [h0, h1]; rfl
  · rintro ⟨r, rfl⟩
    exact Shape.idx_ext₂ rfl rfl

/-- The scale of a chunk. -/
theorem scales_apply (z : Fin 2) (k : Fin 8) : scales A (ix4 z k 0 0) = scale (chunk A z k) := by
  unfold scales scale
  rw [maximumf_at]
  refine congrArg₂ max ?_ rfl
  rw [broadcastInDim_apply _ _ _ _ (ix2 z k) (fun a => by match a with | ⟨0, _⟩ => rfl | ⟨1, _⟩ => rfl), Host.reduce_eq_fold,
    reduced_chunk, Finset.fold_map]
  unfold peak
  congr 1
  funext r
  show max (blocks A (inBlocks z k r)) (-(blocks A (inBlocks z k r))) = _
  rw [blocks_apply]; rfl

/-- A number per chunk, spread over the chunk. -/
theorem spread_apply (s : FVec Ideal S2x8x1x1 .f32) (z : Fin 2) (k : Fin 8) (r : Chunk) :
    broadcastInDim S2x8x256x512 ![0, 1, 2, 3] bcast_S2x8x1x1_S2x8x256x512_0_1_2_3 s (inBlocks z k r) = s (ix4 z k 0 0) :=
  broadcastInDim_apply _ _ _ _ _ fun a => by match a with | ⟨0, _⟩ => rfl | ⟨1, _⟩ => rfl | ⟨2, _⟩ => rfl | ⟨3, _⟩ => rfl

/-- An element quantised and put back. -/
theorem backs_apply (z : Fin 2) (k : Fin 8) (r : Chunk) :
    backs A (inBlocks z k r) = back 32 (A (place z k r)) (scale (chunk A z k)) := by
  unfold backs levels
  rw [mulf_at, sitofp_at, fptosi_at, minimumf_at, maximumf_at, roundeven_at, mulf_at, spread_apply, spread_apply, blocks_apply,
    mulf_at, divf_at, scales_apply]
  rfl

/-- The halves exchanged. -/
theorem swap_apply (x : FVec Ideal S2x2048x512 .f32) (z : Fin 2) (t : Fin 2048) (l : Fin 512) :
    Host.reverse [0] x (ix3 z t l) = x (ix3 (other z) t l) :=
  congrArg x (funext fun a => by match a with | ⟨0, _⟩ => rfl | ⟨1, _⟩ => rfl | ⟨2, _⟩ => rfl)

/-- The reference's result, at a place. -/
theorem out_apply (z : Fin 2) (k : Fin 8) (r : Chunk) : out A (place z k r) = result A z k r := by
  have hr0 : (r 0).val < 256 := idx2_lt0 r
  let t : Fin 2048 := ⟨256 * k.val + (r 0).val, by have := k.isLt; omega⟩
  let l : Fin 512 := ⟨(r 1).val, idx2_lt1 r⟩
  unfold out
  rw [truncf_at]
  rw [shapeCast_apply _ _ _ (ix3 z t l) (by
    rw [Shape.rowMajor_val_three, Shape.rowMajor_val_two]
    show (z.val * 2048 + (256 * k.val + (r 0).val)) * 512 + (r 1).val = (2048 * z.val + (256 * k.val + (r 0).val)) * 512 + (r 1).val
    omega)]
  rw [addf_at]
  rw [shapeCast_apply A _ _ (place z k r) (by
    rw [Shape.rowMajor_val_three, Shape.rowMajor_val_two]
    show (2048 * z.val + (256 * k.val + (r 0).val)) * 512 + (r 1).val = (z.val * 2048 + (256 * k.val + (r 0).val)) * 512 + (r 1).val
    omega)]
  rw [swap_apply]
  unfold result
  refine congrArg (fun e : EReal => A (place z k r) + e) ?_
  rw [← backs_apply]
  refine shapeCast_apply (backs A) _ _ _ ?_
  rw [Shape.rowMajor_val_three, Shape.rowMajor_val_four]
  show (((other z).val * 8 + k.val) * 256 + (r 0).val) * 512 + (r 1).val = ((other z).val * 2048 + (256 * k.val + (r 0).val)) * 512 + (r 1).val
  unfold other
  omega

variable (m : (ℓ : Loc nD τ sig) → Buf (Elt Ideal) ℓ) (ρ : Dev nD → PrngReg)

/-- The reference runs, leaving its result and its argument as it was, and every counter at zero. -/
theorem run_out : θ_run (defs (F := Ideal)) (onTc (τ := τ) (main (F := Ideal))) ⟨m, fun _ => 0, ρ⟩ fun r =>
    (∀ c : Dev nD, r.2.mem ((c.tc : Thread nD τ).loc main_v23) = out (m ((c.tc : Thread nD τ).loc main_arg0))
      ∧ r.2.mem ((c.tc : Thread nD τ).loc main_arg0) = m ((c.tc : Thread nD τ).loc main_arg0)) ∧ r.2.sem = fun _ => 0 :=
  (θ_run _ _ _).mono (fun r h => ⟨fun c => ⟨(h c).1, (h c).2⟩, sem_eq_zero_of_no_sems (by decide) r.2⟩) (Value.run m ρ)

end Cert.ReferenceIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.IdealLaunch
public import proofs.«01_k».proof.Proof.IdealValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- The kernel runs on every device to the end, nothing faulting; its argument is as it was and every counter is at zero. -/
theorem frame_kernel : Cert.quiescent_Kernel (hKernel := Cert.Kernel.Gen.facts) := fun m ρ _ =>
  (θ_run _ _ _).mono (fun _ h => ⟨fun c => (h.1 c 0).trans (Cert.Kernel.Own.finalA_x m ρ c), h.2⟩) (Cert.Kernel.Own.run_main (F := Bits) m ρ)

/-- So does its idealization. -/
theorem frame_ideal : Cert.quiescent_KernelIdeal (hKernelIdeal := Cert.KernelIdeal.Gen.facts) := fun m ρ _ =>
  (θ_run _ _ _).mono (fun _ h => ⟨fun c => (h.1 c 0).trans (Cert.KernelIdeal.Own.finalA_x m ρ c), h.2⟩)
    (Cert.KernelIdeal.Own.run_main (F := Ideal) m ρ)

/-- So does the reference. -/
theorem frame_reference : Cert.quiescent_ReferenceIdeal (hReferenceIdeal := Cert.ReferenceIdeal.Gen.facts) := fun m ρ _ =>
  (θ_run _ _ _).mono (fun _ h => ⟨fun c => (h.1 c).2, h.2⟩) (Cert.ReferenceIdeal.Own.run_out m ρ)

/-- Over the extended reals each device ends holding its half of the reference's result. -/
theorem value : Cert.algebraic_KernelIdeal_ReferenceIdeal (hKernelIdeal := Cert.KernelIdeal.Gen.facts)
    (hReferenceIdeal := Cert.ReferenceIdeal.Gen.facts) := fun m ρ m' ρ' _ hA =>
  ⟨Cert.ReferenceIdeal.Own.out _,
    (θ_run _ _ _).mono (fun _ h c => ⟨((h.1 c 1).trans (Cert.KernelIdeal.Own.finalA_out m ρ c)).trans
        (Cert.KernelIdeal.Own.outAt_eq m ρ _ hA _ (Cert.ReferenceIdeal.Own.out_apply _) c),
      (h.1 c 0).trans (Cert.KernelIdeal.Own.finalA_x m ρ c)⟩) (Cert.KernelIdeal.Own.run_main (F := Ideal) m ρ),
    (θ_run _ _ _).mono (fun _ h => h.1 0) (Cert.ReferenceIdeal.Own.run_out m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
